-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x4096 : Shape := ⟨3, ![2, 3072, 4096]⟩
abbrev S2x3072 : Shape := ⟨2, ![2, 3072]⟩
abbrev S5632x2048 : Shape := ⟨2, ![5632, 2048]⟩
abbrev S5632x64 : Shape := ⟨2, ![5632, 64]⟩
abbrev S5632 : Shape := ⟨1, ![5632]⟩
abbrev S6144x4096 : Shape := ⟨2, ![6144, 4096]⟩
abbrev S48x128 : Shape := ⟨2, ![48, 128]⟩
abbrev S44x128 : Shape := ⟨2, ![44, 128]⟩
abbrev S6144x5632 : Shape := ⟨2, ![6144, 5632]⟩
abbrev S1024x4096 : Shape := ⟨2, ![1024, 4096]⟩
abbrev S512x2048 : Shape := ⟨2, ![512, 2048]⟩
abbrev S512x64 : Shape := ⟨2, ![512, 64]⟩
abbrev S1024x512 : Shape := ⟨2, ![1024, 512]⟩
abbrev S4096x512 : Shape := ⟨2, ![4096, 512]⟩
abbrev S64x512 : Shape := ⟨2, ![64, 512]⟩
abbrev S128x64 : Shape := ⟨2, ![128, 64]⟩
abbrev S64x128 : Shape := ⟨2, ![64, 128]⟩
abbrev S512x128 : Shape := ⟨2, ![512, 128]⟩
abbrev S128x128 : Shape := ⟨2, ![128, 128]⟩
abbrev S32x128 : Shape := ⟨2, ![32, 128]⟩
abbrev S1x128 : Shape := ⟨2, ![1, 128]⟩

abbrev nBuf : Space → Nat
  | .hbm => 10
  | .vmem => 15
  | .smem => 0
  | _ => 0

abbrev bufTy : (tb : Table) → Fin (tcTables nBuf tb) → BufTy
  | .hbm, ⟨0, _⟩ => ⟨S2x3072x4096, .i8⟩
  | .hbm, ⟨1, _⟩ => ⟨S2x3072, .f32⟩
  | .hbm, ⟨2, _⟩ => ⟨S5632x2048, .i8⟩
  | .hbm, ⟨3, _⟩ => ⟨S5632x64, .i8⟩
  | .hbm, ⟨4, _⟩ => ⟨S5632x64, .i8⟩
  | .hbm, ⟨5, _⟩ => ⟨S5632, .f32⟩
  | .hbm, ⟨6, _⟩ => ⟨S6144x4096, .i8⟩
  | .hbm, ⟨7, _⟩ => ⟨S48x128, .f32⟩
  | .hbm, ⟨8, _⟩ => ⟨S44x128, .f32⟩
  | .hbm, ⟨9, _⟩ => ⟨S6144x5632, .bf16⟩
  | .local _ .vmem, ⟨0, _⟩ => ⟨S1024x4096, .i8⟩
  | .local _ .vmem, ⟨1, _⟩ => ⟨S1024x4096, .i8⟩
  | .local _ .vmem, ⟨2, _⟩ => ⟨S48x128, .f32⟩
  | .local _ .vmem, ⟨3, _⟩ => ⟨S512x2048, .i8⟩
  | .local _ .vmem, ⟨4, _⟩ => ⟨S512x2048, .i8⟩
  | .local _ .vmem, ⟨5, _⟩ => ⟨S512x64, .i8⟩
  | .local _ .vmem, ⟨6, _⟩ => ⟨S512x64, .i8⟩
  | .local _ .vmem, ⟨7, _⟩ => ⟨S512x64, .i8⟩
  | .local _ .vmem, ⟨8, _⟩ => ⟨S512x64, .i8⟩
  | .local _ .vmem, ⟨9, _⟩ => ⟨S44x128, .f32⟩
  | .local _ .vmem, ⟨10, _⟩ => ⟨S1024x512, .bf16⟩
  | .local _ .vmem, ⟨11, _⟩ => ⟨S1024x512, .bf16⟩
  | .local _ .vmem, ⟨12, _⟩ => ⟨S4096x512, .bf16⟩
  | .local _ .vmem, ⟨13, _⟩ => ⟨S64x512, .i32⟩
  | .local _ .vmem, ⟨14, _⟩ => ⟨S64x512, .i32⟩
  | _, _ => ⟨S2x3072x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![11, 6], ![false, false]⟩

def k0_off1 (i : grid0.Coords) (c0_i32_4 : BitVec 32) : Fin 2 → Nat :=
  let arg0 : BitVec 32 := BitVec.ofNat 32 (i 0).val
  let c4_i32 : BitVec 32 := 4#32
  let v8 : BitVec 32 := Scalar.muli arg0 c4_i32
  let v9 : BitVec 32 := Scalar.addi v8 c0_i32_4
  let v10 : Index := Scalar.indexCast v9
  let c0_5 : Index := 0#32
  ![v10.toNat, 0]
def k0_off2 (i : grid0.Coords) (c0_i32_12 : BitVec 32) : Fin 2 → Nat :=
  let arg1 : BitVec 32 := BitVec.ofNat 32 (i 1).val
  let c8_i32 : BitVec 32 := 8#32
  let v28 : BitVec 32 := Scalar.muli arg1 c8_i32
  let v29 : BitVec 32 := Scalar.addi v28 c0_i32_12
  let v30 : Index := Scalar.indexCast v29
  let c0_13 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x64 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x64 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S44x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x3072x4096 : Shape := ⟨3, ![2, 3072, 4096]⟩
abbrev S2x3072 : Shape := ⟨2, ![2, 3072]⟩
abbrev S5632x2048 : Shape := ⟨2, ![5632, 2048]⟩
abbrev S5632x64 : Shape := ⟨2, ![5632, 64]⟩
abbrev S5632 : Shape := ⟨1, ![5632]⟩
abbrev S2048 : Shape := ⟨1, ![2048]⟩
abbrev S1x2048 : Shape := ⟨2, ![1, 2048]⟩
abbrev S_ : Shape := ⟨0, ![]⟩
abbrev S64 : Shape := ⟨1, ![64]⟩
abbrev S64x1 : Shape := ⟨2, ![64, 1]⟩
abbrev S64x2048 : Shape := ⟨2, ![64, 2048]⟩
abbrev S5632x2048x1 : Shape := ⟨3, ![5632, 2048, 1]⟩
abbrev S5632x2048x2 : Shape := ⟨3, ![5632, 2048, 2]⟩
abbrev S5632x4096 : Shape := ⟨2, ![5632, 4096]⟩
abbrev S2x3072x5632 : Shape := ⟨3, ![2, 3072, 5632]⟩
abbrev S2x3072x1 : Shape := ⟨3, ![2, 3072, 1]⟩
abbrev S1x1x5632 : Shape := ⟨3, ![1, 1, 5632]⟩
abbrev S6144x5632 : Shape := ⟨2, ![6144, 5632]⟩

abbrev nBuf : Space → Nat
  | .hbm => 94
  | .vmem => 0
  | .smem => 0
  | _ => 0

abbrev bufTy : (tb : Table) → Fin (tcTables nBuf tb) → BufTy
  | .hbm, ⟨0, _⟩ => ⟨S2x3072x4096, .i8⟩
  | .hbm, ⟨1, _⟩ => ⟨S2x3072, .f32⟩
  | .hbm, ⟨2, _⟩ => ⟨S5632x2048, .i8⟩
  | .hbm, ⟨3, _⟩ => ⟨S5632x64, .i8⟩
  | .hbm, ⟨4, _⟩ => ⟨S5632x64, .i8⟩
  | .hbm, ⟨5, _⟩ => ⟨S5632, .f32⟩
  | .hbm, ⟨6, _⟩ => ⟨S5632x64, .i32⟩
  | .hbm, ⟨7, _⟩ => ⟨S2048, .i32⟩
  | .hbm, ⟨8, _⟩ => ⟨S1x2048, .i32⟩
  | .hbm, ⟨9, _⟩ => ⟨S_, .i32⟩
  | .hbm, ⟨10, _⟩ => ⟨S_, .i32⟩
  | .hbm, ⟨11, _⟩ => ⟨S1x2048, .i32⟩
  | .hbm, ⟨12, _⟩ => ⟨S1x2048, .i32⟩
  | .hbm, ⟨13, _⟩ => ⟨S1x2048, .i32⟩
  | .hbm, ⟨14, _⟩ => ⟨S_, .i32⟩
  | .hbm, ⟨15, _⟩ => ⟨S1x2048, .i32⟩
  | .hbm, ⟨16, _⟩ => ⟨S1x2048, .i1⟩
  | .hbm, ⟨17, _⟩ => ⟨S1x2048, .i32⟩
  | .hbm, ⟨18, _⟩ => ⟨S1x2048, .i32⟩
  | .hbm, ⟨19, _⟩ => ⟨S_, .i32⟩
  | .hbm, ⟨20, _⟩ => ⟨S1x2048, .i32⟩
  | .hbm, ⟨21, _⟩ => ⟨S1x2048, .i1⟩
  | .hbm, ⟨22, _⟩ => ⟨S1x2048, .i1⟩
  | .hbm, ⟨23, _⟩ => ⟨S_, .i32⟩
  | .hbm, ⟨24, _⟩ => ⟨S1x2048, .i32⟩
  | .hbm, ⟨25, _⟩ => ⟨S1x2048, .i32⟩
  | .hbm, ⟨26, _⟩ => ⟨S1x2048, .i32⟩
  | .hbm, ⟨27, _⟩ => ⟨S64, .i32⟩
  | .hbm, ⟨28, _⟩ => ⟨S64x1, .i32⟩
  | .hbm, ⟨29, _⟩ => ⟨S64x2048, .i32⟩
  | .hbm, ⟨30, _⟩ => ⟨S64x2048, .i32⟩
  | .hbm, ⟨31, _⟩ => ⟨S64x2048, .i1⟩
  | .hbm, ⟨32, _⟩ => ⟨S64x2048, .bf16⟩
  | .hbm, ⟨33, _⟩ => ⟨S5632x64, .bf16⟩
  | .hbm, ⟨34, _⟩ => ⟨S5632x2048, .f32⟩
  | .hbm, ⟨35, _⟩ => ⟨S5632x2048, .bf16⟩
  | .hbm, ⟨36, _⟩ => ⟨S5632x64, .i32⟩
  | .hbm, ⟨37, _⟩ => ⟨S2048, .i32⟩
  | .hbm, ⟨38, _⟩ => ⟨S1x2048, .i32⟩
  | .hbm, ⟨39, _⟩ => ⟨S_, .i32⟩
  | .hbm, ⟨40, _⟩ => ⟨S_, .i32⟩
  | .hbm, ⟨41, _⟩ => ⟨S1x2048, .i32⟩
  | .hbm, ⟨42, _⟩ => ⟨S1x2048, .i32⟩
  | .hbm, ⟨43, _⟩ => ⟨S1x2048, .i32⟩
  | .hbm, ⟨44, _⟩ => ⟨S_, .i32⟩
  | .hbm, ⟨45, _⟩ => ⟨S1x2048, .i32⟩
  | .hbm, ⟨46, _⟩ => ⟨S1x2048, .i1⟩
  | .hbm, ⟨47, _⟩ => ⟨S1x2048, .i32⟩
  | .hbm, ⟨48, _⟩ => ⟨S1x2048, .i32⟩
  | .hbm, ⟨49, _⟩ => ⟨S_, .i32⟩
  | .hbm, ⟨50, _⟩ => ⟨S1x2048, .i32⟩
  | .hbm, ⟨51, _⟩ => ⟨S1x2048, .i1⟩
  | .hbm, ⟨52, _⟩ => ⟨S1x2048, .i1⟩
  | .hbm, ⟨53, _⟩ => ⟨S_, .i32⟩
  | .hbm, ⟨54, _⟩ => ⟨S1x2048, .i32⟩
  | .hbm, ⟨55, _⟩ => ⟨S1x2048, .i32⟩
  | .hbm, ⟨56, _⟩ => ⟨S1x2048, .i32⟩
  | .hbm, ⟨57, _⟩ => ⟨S64, .i32⟩
  | .hbm, ⟨58, _⟩ => ⟨S64x1, .i32⟩
  | .hbm, ⟨59, _⟩ => ⟨S64x2048, .i32⟩
  | .hbm, ⟨60, _⟩ => ⟨S64x2048, .i32⟩
  | .hbm, ⟨61, _⟩ => ⟨S64x2048, .i1⟩
  | .hbm, ⟨62, _⟩ => ⟨S64x2048, .bf16⟩
  | .hbm, ⟨63, _⟩ => ⟨S5632x64, .bf16⟩
  | .hbm, ⟨64, _⟩ => ⟨S5632x2048, .f32⟩
  | .hbm, ⟨65, _⟩ => ⟨S5632x2048, .bf16⟩
  | .hbm, ⟨66, _⟩ => ⟨S5632x2048, .i32⟩
  | .hbm, ⟨67, _⟩ => ⟨S_, .i32⟩
  | .hbm, ⟨68, _⟩ => ⟨S5632x2048, .i32⟩
  | .hbm, ⟨69, _⟩ => ⟨S5632x2048, .i32⟩
  | .hbm, ⟨70, _⟩ => ⟨S5632x2048, .bf16⟩
  | .hbm, ⟨71, _⟩ => ⟨S5632x2048, .bf16⟩
  | .hbm, ⟨72, _⟩ => ⟨S5632x2048, .bf16⟩
  | .hbm, ⟨73, _⟩ => ⟨S_, .i32⟩
  | .hbm, ⟨74, _⟩ => ⟨S5632x2048, .i32⟩
  | .hbm, ⟨75, _⟩ => ⟨S5632x2048, .i32⟩
  | .hbm, ⟨76, _⟩ => ⟨S5632x2048, .bf16⟩
  | .hbm, ⟨77, _⟩ => ⟨S5632x2048, .bf16⟩
  | .hbm, ⟨78, _⟩ => ⟨S5632x2048, .bf16⟩
  | .hbm, ⟨79, _⟩ => ⟨S5632x2048x1, .bf16⟩
  | .hbm, ⟨80, _⟩ => ⟨S5632x2048x1, .bf16⟩
  | .hbm, ⟨81, _⟩ => ⟨S5632x2048x2, .bf16⟩
  | .hbm, ⟨82, _⟩ => ⟨S5632x4096, .bf16⟩
  | .hbm, ⟨83, _⟩ => ⟨S2x3072x4096, .i32⟩
  | .hbm, ⟨84, _⟩ => ⟨S2x3072x4096, .bf16⟩
  | .hbm, ⟨85, _⟩ => ⟨S2x3072x5632, .f32⟩
  | .hbm, ⟨86, _⟩ => ⟨S2x3072x1, .f32⟩
  | .hbm, ⟨87, _⟩ => ⟨S2x3072x5632, .f32⟩
  | .hbm, ⟨88, _⟩ => ⟨S2x3072x5632, .f32⟩
  | .hbm, ⟨89, _⟩ => ⟨S1x1x5632, .f32⟩
  | .hbm, ⟨90, _⟩ => ⟨S2x3072x5632, .f32⟩
  | .hbm, ⟨91, _⟩ => ⟨S2x3072x5632, .f32⟩
  | .hbm, ⟨92, _⟩ => ⟨S2x3072x5632, .bf16⟩
  | .hbm, ⟨93, _⟩ => ⟨S6144x5632, .bf16⟩
  | _, _ => ⟨S2x3072x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_c_1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_2 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩

abbrev nD : Nat := 1
abbrev τ : Topo := Topo.v7x

variable {F : FTy → Type} [FloatOps F]
-- ==== Proof.Words.lean ====
/- The words the kernel builds, and the numbers they denote as `bf16` patterns: a byte written as the pattern of its
   value in both halves of a word, a byte's two nibbles written as 128 plus the nibble in the two halves, and the
   four bytes of a packed word taken apart again. -/
module

public import Idealize.ShloMosaic.PureOps
public import Idealize.ShloMosaic.PureOps.Ideal

@[expose] public section

noncomputable section

namespace Cert.W4A8

open Idealize.ShloMosaic

/-! ## Naturals as `bf16` patterns -/

/-- The pattern `h` is a positive or zero `bf16` whose fields spell the natural `b`: either both are zero, or the
    exponent is at least that of 1 and significand times power is `b` (both sides times 128). -/
def Spells (h : BitVec 16) (b : ℕ) : Bool :=
  (h.extractLsb' 15 1 != 1#1) &&
    ((h == 0#16 && b == 0) ||
      (decide ((h.extractLsb' 7 8).toNat < 255) && decide (127 ≤ (h.extractLsb' 7 8).toNat)
        && (128 + (h.extractLsb' 0 7).toNat) * 2 ^ ((h.extractLsb' 7 8).toNat - 127) == b * 128))

/-- A pattern that spells `b` denotes `b`. -/
theorem ofBits_of_spells {h : BitVec 16} {b : ℕ} (hs : Spells h b = true) :
    Ideal.ofBits .bf16 h = ((b : ℝ) : EReal) := by
  simp only [Spells, Bool.and_eq_true, Bool.or_eq_true, decide_eq_true_eq, beq_iff_eq, bne_iff_ne, ne_eq] at hs
  obtain ⟨h15, ⟨h0, hb⟩ | ⟨⟨hlt, hge⟩, he⟩⟩ := hs
  · subst h0; subst hb
    simp [Ideal.ofBits, Ideal.ieee]
  · obtain ⟨d, hd⟩ := Nat.exists_eq_add_of_le hge
    have hex : (h.extractLsb' 7 8).toNat ≠ 255 := by omega
    have hex0 : (h.extractLsb' 7 8).toNat ≠ 0 := by omega
    have hn : (h.extractLsb' 15 1 == 1#1) = false := by simpa using h15
    show Ideal.ieee 8 7 h = _
    unfold Ideal.ieee
    simp only [Nat.reduceAdd, hn, Nat.reducePow, Nat.reduceSub, if_neg hex, if_neg hex0]
    have hdd : (h.extractLsb' 7 8).toNat - 127 = d := by omega
    rw [hdd] at he
    have heR : ((128 + (h.extractLsb' 0 7).toNat : ℕ) : ℝ) * 2 ^ d = (b : ℝ) * 128 := by exact_mod_cast he
    have hz : (((h.extractLsb' 7 8).toNat : ℤ) - (2 ^ 7 - 1) - ((7 : ℕ) : ℤ)) = (d : ℤ) - 7 := by rw [hd]; push_cast; ring
    rw [hz, zpow_sub₀ (by norm_num : (2 : ℝ) ≠ 0)]
    congr 1
    simp only [Bool.false_eq_true, if_false, one_mul, zpow_natCast]
    have h7 : (2 : ℝ) ^ (7 : ℤ) = 128 := by norm_num
    rw [h7, ← mul_div_assoc, div_eq_iff (by norm_num)]
    exact heR

/-! ## A byte as the pattern of its value, in both halves -/

/-- The 32-bit float pattern of a small natural, built from its leading-zero count (zero for zero). -/
def floatWord (v : BitVec 32) : BitVec 32 :=
  Scalar.select (IntOp.cmpi .eq v 0#32) 0#32
    (IntOp.ori (IntOp.shli .vector (IntOp.addi (IntOp.subi 31#32 (IntOp.ctlz v)) 127#32) 23#32)
      (IntOp.andi (IntOp.shli .vector v (IntOp.subi 23#32 (IntOp.subi 31#32 (IntOp.ctlz v)))) 8388607#32))

/-- That word with its upper half copied to its lower half. -/
def twinWord (v : BitVec 32) : BitVec 32 := IntOp.ori (floatWord v) (IntOp.shrui .vector (floatWord v) 16#32)

theorem twinWord_spells : ∀ (b : Fin 256) (p : Fin 2),
    Spells ((twinWord (BitVec.ofNat 32 b.val)).extractLsb' (16 * p.val) 16) b.val = true := by decide +kernel

theorem setWidth_byte (b : BitVec 8) : b.setWidth 32 = BitVec.ofNat 32 b.toNat := by
  apply BitVec.eq_of_toNat_eq
  have := b.isLt
  simp only [BitVec.toNat_setWidth, BitVec.toNat_ofNat]

/-- The number a byte stands for. -/
def byteR (b : BitVec 8) : EReal := ((b.toNat : ℝ) : EReal)

/-- Either half of a byte's twin word denotes the byte. -/
theorem twinWord_half (b : BitVec 8) (p : ℕ) (hp : p < 2) :
    Ideal.ofBits .bf16 ((twinWord (b.setWidth 32)).extractLsb' (16 * p) 16) = byteR b := by
  rw [setWidth_byte]
  exact ofBits_of_spells (twinWord_spells ⟨b.toNat, b.isLt⟩ ⟨p, hp⟩)

/-! ## A byte's nibbles -/

/-- The low nibble of a word in its lower half and the next nibble in its upper half, each under the exponent of 128. -/
def codeWord (u : BitVec 32) : BitVec 32 :=
  IntOp.ori (IntOp.ori (IntOp.andi u 15#32) (IntOp.andi (IntOp.shli .vector u 12#32) 983040#32)) 1124090624#32

/-- It depends on the word's low byte alone. -/
theorem codeWord_low (u : BitVec 32) : codeWord (u &&& 255#32) = codeWord u := by
  have h12 : ∀ x : BitVec 32, IntOp.shli .vector x 12#32 = x <<< (12#32) := fun x => by
    unfold IntOp.shli; exact if_pos (by decide)
  unfold codeWord
  rw [h12, h12]
  unfold IntOp.ori IntOp.andi
  have e1 : u &&& 255#32 &&& 15#32 = u &&& 15#32 := by rw [BitVec.and_assoc]; rfl
  have e2 : (u &&& 255#32) <<< 12#32 &&& 983040#32 = u <<< 12#32 &&& 983040#32 := by
    rw [BitVec.shiftLeft_eq', BitVec.shiftLeft_eq', BitVec.shiftLeft_and_distrib, BitVec.and_assoc]; rfl
  rw [e1, e2]

theorem codeWord_spells : ∀ (b : Fin 256) (p : Fin 2),
    Spells ((codeWord (BitVec.ofNat 32 b.val)).extractLsb' (16 * p.val) 16) (128 + b.val / 16 ^ p.val % 16) = true := by
  decide +kernel

theorem spells_128 : Spells 0x4300#16 128 = true := by decide +kernel

/-- The number nibble `p` of a byte stands for. -/
def nibR (b : BitVec 8) (p : ℕ) : EReal := ((b.toNat / 16 ^ p % 16 : ℕ) : ℝ)

/-- Half `p` of the code word, less 128, is nibble `p` of the word's low byte. -/
theorem codeWord_half (u : BitVec 32) (b : BitVec 8) (hu : u &&& 255#32 = b.setWidth 32) (p : ℕ) (hp : p < 2) :
    Ideal.ofBits .bf16 ((codeWord u).extractLsb' (16 * p) 16) - Ideal.ofBits .bf16 0x4300#16 = nibR b p := by
  rw [← codeWord_low, hu, setWidth_byte, ofBits_of_spells (codeWord_spells ⟨b.toNat, b.isLt⟩ ⟨p, hp⟩),
    ofBits_of_spells spells_128]
  simp only
  rw [← EReal.coe_sub]
  unfold nibR
  congr 1
  push_cast
  ring

/-! ## Four bytes in a word -/

/-- Four bytes in one word, the first lowest. -/
def packWord (a b c d : BitVec 8) : BitVec 32 :=
  IntOp.ori (IntOp.ori (IntOp.ori (a.setWidth 32) (IntOp.shli .vector (b.setWidth 32) 8#32))
    (IntOp.shli .vector (c.setWidth 32) 16#32)) (IntOp.shli .vector (d.setWidth 32) 24#32)

theorem packWord_eq (a b c d : BitVec 8) : packWord a b c d = d ++ c ++ b ++ a := by
  have h : ∀ (x k : BitVec 32), k.toNat < 32 → IntOp.shli .vector x k = x <<< k.toNat := fun x k hk => by
    unfold IntOp.shli; rw [if_pos hk]; rfl
  unfold packWord
  rw [h _ _ (by decide), h _ _ (by decide), h _ _ (by decide)]
  unfold IntOp.ori
  apply BitVec.eq_of_getLsbD_eq
  intro i hi
  simp only [BitVec.getLsbD_or, BitVec.getLsbD_shiftLeft, BitVec.getLsbD_setWidth, BitVec.getLsbD_append,
    show (8#32).toNat = 8 from rfl, show (16#32).toNat = 16 from rfl, show (24#32).toNat = 24 from rfl]
  interval_cases i <;> simp

/-- Byte `k` of the packed word. -/
theorem packWord_byte (a b c d : BitVec 8) : ∀ k : Fin 4,
    IntOp.shrui .vector (packWord a b c d) (BitVec.ofNat 32 (8 * k.val)) &&& 255#32
      = (match k with | 0 => a | 1 => b | 2 => c | 3 => d : BitVec 8).setWidth 32 := by
  have h : ∀ (x y : BitVec 32), y.toNat < 32 → IntOp.shrui .vector x y = x >>> y.toNat := fun x y hy => by
    unfold IntOp.shrui; rw [if_pos hy]; rfl
  intro k
  rw [packWord_eq]
  fin_cases k <;>
  · rw [h _ _ (by decide)]
    apply BitVec.eq_of_getLsbD_eq
    intro i hi
    simp only [BitVec.getLsbD_and, BitVec.getLsbD_ushiftRight, BitVec.getLsbD_append, BitVec.getLsbD_setWidth]
    interval_cases i <;> simp

/-! ## What the reference reads of a byte -/

theorem low_toInt : ∀ b : Fin 256, (IntOp.andi (BitVec.ofNat 32 b.val) 15#32).toInt = ((b.val / 16 ^ 0 % 16 : ℕ) : ℤ) := by
  decide +kernel

theorem high_toInt : ∀ b : Fin 256, (IntOp.shrsi .host (BitVec.ofNat 32 b.val) 4#32).toInt = ((b.val / 16 ^ 1 % 16 : ℕ) : ℤ) := by
  decide +kernel

theorem byte_toInt : ∀ b : Fin 256, (BitVec.ofNat 32 b.val).toInt = (b.val : ℤ) := by decide +kernel

theorem low_real (b : BitVec 8) : (((IntOp.andi (b.setWidth 32) 15#32).toInt : ℝ) : EReal) = nibR b 0 := by
  rw [setWidth_byte, low_toInt ⟨b.toNat, b.isLt⟩]; unfold nibR; push_cast; rfl

theorem high_real (b : BitVec 8) : (((IntOp.shrsi .host (b.setWidth 32) 4#32).toInt : ℝ) : EReal) = nibR b 1 := by
  rw [setWidth_byte, high_toInt ⟨b.toNat, b.isLt⟩]; unfold nibR; push_cast; rfl

theorem byte_real (b : BitVec 8) : (((b.setWidth 32).toInt : ℝ) : EReal) = byteR b := by
  rw [setWidth_byte, byte_toInt ⟨b.toNat, b.isLt⟩]; unfold byteR; push_cast; rfl

end Cert.W4A8

end
-- ==== Proof.Chunk.lean ====
/- The vector operations of one dequantised tile, written once with their offsets and shifts as parameters, and each read
   at an index: four row blocks packed into words and transposed, a byte of every word as the pattern of its value in
   both halves, the two nibbles of that byte less 128, and the tile `nibble · scale - zero`. -/
module

public import proofs.«01_k».proof.Proof.Words
public import proofs.«01_k».proof.Proof.Gen.KernelIdeal.Skeleton
public import Idealize.ShloMosaic.Lib.BitcastPair
public import Idealize.ShloMosaic.Lib.IdealHost
public import Idealize.ShloMosaic.Lib.Pointwise.Tactic
public import Idealize.ShloMosaic.Lib.Pointwise.Index
public import Idealize.ShloMosaic.Lib.Pointwise.Reshape

@[expose] public section

set_option maxRecDepth 16384

noncomputable section

namespace Cert.W4A8

open Cert.KernelIdeal Cert.KernelIdeal.Gen Idealize.ShloMosaic Idealize.ShloMosaic.TcCoe Idealize.SL.Sem

variable {F : FTy → Type} [FloatOps F]

/-! ## The operations -/

/-- Four blocks of 128 rows packed into words, rows and columns exchanged (the packed weights). -/
def packVec (v : Vec F S512x128 .i8) : IVec S128x128 32 :=
  transpose S128x128 [1, 0]
    (ori (ori (ori (extui 32 (extractStridedSlice S128x128 ![0, 0] v slices_S512x128_o0_0_S128x128) natLt_8_32)
      (shli (extui 32 (extractStridedSlice S128x128 ![128, 0] v slices_S512x128_o128_0_S128x128) natLt_8_32) (broadcast S128x128 8#32)))
      (shli (extui 32 (extractStridedSlice S128x128 ![256, 0] v slices_S512x128_o256_0_S128x128) natLt_8_32) (broadcast S128x128 16#32)))
      (shli (extui 32 (extractStridedSlice S128x128 ![384, 0] v slices_S512x128_o384_0_S128x128) natLt_8_32) (broadcast S128x128 24#32)))
    transposes_S128x128_p1_0_S128x128

/-- The same of a 64-column table (the group scales and zeros). -/
def packTab (v : Vec F S512x64 .i8) : IVec S64x128 32 :=
  transpose S64x128 [1, 0]
    (ori (ori (ori (extui 32 (extractStridedSlice S128x64 ![0, 0] v slices_S512x64_o0_0_S128x64) natLt_8_32)
      (shli (extui 32 (extractStridedSlice S128x64 ![128, 0] v slices_S512x64_o128_0_S128x64) natLt_8_32) (broadcast S128x64 8#32)))
      (shli (extui 32 (extractStridedSlice S128x64 ![256, 0] v slices_S512x64_o256_0_S128x64) natLt_8_32) (broadcast S128x64 16#32)))
      (shli (extui 32 (extractStridedSlice S128x64 ![384, 0] v slices_S512x64_o384_0_S128x64) natLt_8_32) (broadcast S128x64 24#32)))
    transposes_S128x64_p1_0_S64x128

/-- The byte of every word at a shift. -/
def byteVec (w : IVec S64x128 32) (sh : BitVec 32) : IVec S64x128 32 :=
  andi (shrui w (broadcast S64x128 sh)) (broadcast S64x128 255#32)

/-- Its float pattern, from the leading-zero count. -/
def floatVec (v : IVec S64x128 32) : IVec S64x128 32 :=
  select (cmpi .eq v (broadcast S64x128 0#32)) (broadcast S64x128 0#32)
    (ori (shli (addi (subi (broadcast S64x128 31#32) (ctlz v)) (broadcast S64x128 127#32)) (broadcast S64x128 23#32))
      (andi (shli v (subi (broadcast S64x128 23#32) (subi (broadcast S64x128 31#32) (ctlz v)))) (broadcast S64x128 8388607#32)))

/-- One 128-column block of an expanded table: the byte at a shift, its pattern in both halves of the word. -/
def tabVec (w : IVec S64x128 32) (sh : BitVec 32) : IVec S64x128 32 :=
  shapeCast S64x128
    (ori (floatVec (byteVec w sh)) (shrui (floatVec (byteVec w sh)) (broadcast S64x128 16#32))) shapeCasts_S64x128_S64x128

/-- One row of an expanded table, repeated down 32 rows and read as two `bf16` rows each. -/
def rowVec (r : Vec F S1x128 .i32) : FVec F S64x128 .bf16 :=
  bitcastToFloat .bf16 (bitcast S64x128 16
    (broadcastTo S32x128 (shapeCast S1x128 r shapeCasts_S1x128_S1x128) broadcasts_S1x128_S32x128) bitcasts_S32x128_w32_S64x128_w16)

/-- The two nibbles of a byte of 32 rows of packed words, as `bf16` rows, less 128. -/
def nibVec (p : IVec S128x128 32) (off : Fin 2 → ℕ) (hs : S128x128.Slices off S32x128) (sh : BitVec 32) : FVec F S64x128 .bf16 :=
  subf (bitcastToFloat .bf16 (bitcast S64x128 16
    (ori (ori (andi (shrui (extractStridedSlice S32x128 off p hs) (broadcast S32x128 sh)) (broadcast S32x128 15#32))
      (andi (shli (shrui (extractStridedSlice S32x128 off p hs) (broadcast S32x128 sh)) (broadcast S32x128 12#32))
        (broadcast S32x128 983040#32))) (broadcast S32x128 1124090624#32)) bitcasts_S32x128_w32_S64x128_w16))
    (broadcast S64x128 (Scalar.ofBits .bf16 0x4300#16))

/-- One tile of dequantised weights. -/
def tileVec (p : IVec S128x128 32) (off : Fin 2 → ℕ) (hs : S128x128.Slices off S32x128) (sh : BitVec 32)
    (rs rz : Vec F S1x128 .i32) : FVec F S64x128 .bf16 :=
  shapeCast S64x128 (subf (mulf (nibVec p off hs sh) (rowVec rs)) (rowVec rz)) shapeCasts_S64x128_S64x128

/-! ## At an index -/

/-- Row `i` of 16-bit rows is half `i % 2` of word row `i / 2`. -/
theorem bitcast_half (u : IVec S32x128 32) (i : Fin 64) (l : Fin 128) :
    bitcast S64x128 16 u bitcasts_S32x128_w32_S64x128_w16 (ix2 i l)
      = (u (ix2 ⟨i.val / 2, by omega⟩ l)).extractLsb' (16 * (i.val % 2)) 16 := by
  rw [bitcast_32_16]
  have hr : S64x128.row (ix2 i l) = i.val := rfl
  have hidx : ∀ (h) , (bitcasts_S32x128_w32_S64x128_w16).srcIdx (ix2 i l) (S64x128.row (ix2 i l) / 2) h
      = (ix2 ⟨i.val / 2, by omega⟩ l : S32x128.Idx) := by
    intro h
    funext a
    apply Fin.ext
    fin_cases a <;> rfl
  rw [hidx, hr]

/-- Four packed rows at an index. -/
theorem packVec_apply (v : Vec F S512x128 .i8) (j l : Fin 128) :
    packVec v (ix2 j l) = packWord (v (ix2 ⟨l.val, by omega⟩ j)) (v (ix2 ⟨128 + l.val, by omega⟩ j))
      (v (ix2 ⟨256 + l.val, by omega⟩ j)) (v (ix2 ⟨384 + l.val, by omega⟩ j)) := by
  unfold packVec packWord
  pointwise

theorem packTab_apply (v : Vec F S512x64 .i8) (j : Fin 64) (l : Fin 128) :
    packTab v (ix2 j l) = packWord (v (ix2 ⟨l.val, by omega⟩ j)) (v (ix2 ⟨128 + l.val, by omega⟩ j))
      (v (ix2 ⟨256 + l.val, by omega⟩ j)) (v (ix2 ⟨384 + l.val, by omega⟩ j)) := by
  unfold packTab packWord
  pointwise

theorem tabVec_apply (w : IVec S64x128 32) (sh : BitVec 32) (j : Fin 64) (l : Fin 128) :
    tabVec w sh (ix2 j l) = twinWord (IntOp.shrui .vector (w (ix2 j l)) sh &&& 255#32) := by
  unfold tabVec
  rw [shapeCast_id]
  rfl

theorem rowVec_apply (r : Vec Ideal S1x128 .i32) (i : Fin 64) (l : Fin 128) :
    rowVec r (ix2 i l) = Ideal.ofBits .bf16 ((r (ix2 0 l)).extractLsb' (16 * (i.val % 2)) 16) := by
  unfold rowVec
  rw [bitcastToFloat_apply, bitcast_half]
  pointwise!

theorem nibVec_apply (p : IVec S128x128 32) (o : ℕ) (hs : S128x128.Slices ![o, 0] S32x128) (ho : o + 32 ≤ 128) (sh : BitVec 32)
    (i : Fin 64) (l : Fin 128) :
    nibVec (F := Ideal) p ![o, 0] hs sh (ix2 i l)
      = Ideal.ofBits .bf16 ((codeWord (IntOp.shrui .vector (p (ix2 ⟨o + i.val / 2, by omega⟩ l)) sh)).extractLsb'
          (16 * (i.val % 2)) 16) - Ideal.ofBits .bf16 0x4300#16 := by
  unfold nibVec
  have h : ∀ a b : FVec Ideal S64x128 .bf16, subf a b (ix2 i l) = a (ix2 i l) - b (ix2 i l) := fun a b => rfl
  rw [h, bitcastToFloat_apply, bitcast_half]
  unfold codeWord
  have hsl : extractStridedSlice S32x128 ![o, 0] p hs (ix2 ⟨i.val / 2, by omega⟩ l) = p (ix2 ⟨o + i.val / 2, by omega⟩ l) := by
    show p _ = p _
    congr 1
    funext a
    apply Fin.ext
    fin_cases a
    · rfl
    · show 0 + l.val = l.val
      omega
  rw [← hsl]
  rfl

/-- ONE TILE AT AN INDEX: when the packed words' bytes are those of `B`, and the rows read are the twin words of the
    bytes `s`, `z`, the tile is `nibble · scale - zero`. -/
theorem tileVec_apply (p : IVec S128x128 32) (o : ℕ) (hs : S128x128.Slices ![o, 0] S32x128) (ho : o + 32 ≤ 128) (sh : BitVec 32)
    (rs rz : Vec Ideal S1x128 .i32) (i : Fin 64) (l : Fin 128) (B s z : BitVec 8)
    (hB : IntOp.shrui .vector (p (ix2 ⟨o + i.val / 2, by omega⟩ l)) sh &&& 255#32 = B.setWidth 32)
    (hrs : rs (ix2 0 l) = twinWord (s.setWidth 32)) (hrz : rz (ix2 0 l) = twinWord (z.setWidth 32)) :
    tileVec p ![o, 0] hs sh rs rz (ix2 i l) = nibR B (i.val % 2) * byteR s - byteR z := by
  unfold tileVec
  rw [shapeCast_id]
  have h : ∀ a b c : FVec Ideal S64x128 .bf16, subf (mulf a b) c (ix2 i l) = a (ix2 i l) * b (ix2 i l) - c (ix2 i l) := fun a b c => rfl
  have hp : i.val % 2 < 2 := Nat.mod_lt _ (by decide)
  rw [h, nibVec_apply p o hs ho sh i l, rowVec_apply, rowVec_apply, hrs, hrz, codeWord_half _ B hB _ hp,
    twinWord_half _ _ hp, twinWord_half _ _ hp]

end Cert.W4A8

end
-- ==== Proof.Tables.lean ====
/- The two expanded tables the first visit to a column block builds (the group scales and the group zeros): what each
   of their words is, and what a row read back from them holds. -/
module

public import proofs.«01_k».proof.Proof.Chunk
public import proofs.«01_k».proof.Proof.Gen.KernelIdeal.Frame
public import Idealize.ShloMosaic.Lib.Pipeline.ValueKit.Tiles
public import Idealize.ShloMosaic.Lib.WholeRead

@[expose] public section

set_option maxRecDepth 16384

noncomputable section

namespace Cert.W4A8

open Cert.KernelIdeal Cert.KernelIdeal.Gen Idealize.ShloMosaic Idealize.ShloMosaic.TcCoe Idealize.SL.Sem

/-! ## A byte of the packed words is the block's entry -/

theorem packVec_byte (v : Vec Ideal S512x128 .i8) (b : ℕ) (hb : b < 4) (j l : Fin 128) :
    IntOp.shrui .vector (packVec v (ix2 j l)) (BitVec.ofNat 32 (8 * b)) &&& 255#32
      = (v (ix2 ⟨128 * b + l.val, by omega⟩ j)).setWidth 32 := by
  rw [packVec_apply, packWord_byte _ _ _ _ ⟨b, hb⟩]
  interval_cases b
  · simp only [Nat.mul_zero, Nat.zero_add]
  all_goals rfl

theorem packTab_byte (v : Vec Ideal S512x64 .i8) (b : ℕ) (hb : b < 4) (j : Fin 64) (l : Fin 128) :
    IntOp.shrui .vector (packTab v (ix2 j l)) (BitVec.ofNat 32 (8 * b)) &&& 255#32
      = (v (ix2 ⟨128 * b + l.val, by omega⟩ j)).setWidth 32 := by
  rw [packTab_apply, packWord_byte _ _ _ _ ⟨b, hb⟩]
  interval_cases b
  · simp only [Nat.mul_zero, Nat.zero_add]
  all_goals rfl

/-- The word the expanded table of `x` holds at row (group) `y 0`, column `y 1`. -/
def tabAt (x : Vec Ideal S512x64 .i8) (y : S64x512.Idx) : BitVec 32 :=
  twinWord ((x (ix2 (y 1) (y 0))).setWidth 32)

/-- The whole block of a table as loaded is the block. -/
theorem readTab (arg : Memref sig .tc .vmem S512x64 .i8) (harg : arg.IsWhole) (x : Vec Ideal S512x64 .i8) (inb) :
    View.readAt (Elt Ideal) arg.view (Rect.unit (s := S512x64) ![0, 0] S512x64.size inb).toLoadRect (harg.unread x) = x := by
  funext j
  rw [Memref.IsWhole.readAt_unread]
  congr 1
  funext a
  apply Fin.ext
  refine (Rect.idx_unit_val _ _ _ _ _).trans ?_
  fin_cases a <;> exact Nat.zero_add _

/-- Column block `b` of the expanded table, as the kernel computes it, holds the table's words. -/
theorem tab_tile (arg : Memref sig .tc .vmem S512x64 .i8) (harg : arg.IsWhole) (x : Vec Ideal S512x64 .i8) (inb)
    (b : ℕ) (hb : b < 4) (y : S64x512.Idx) :
    View.TileAt (Val := Elt Ideal) (S := S64x512) (e := .i32) y ![0, 128 * b] S64x128.size
      (tabVec (packTab (View.readAt (Elt Ideal) arg.view (Rect.unit (s := S512x64) ![0, 0] S512x64.size inb).toLoadRect (harg.unread x)))
        (BitVec.ofNat 32 (8 * b))) (tabAt x y) := by
  intro z hz
  rw [readTab]
  obtain ⟨j, l, rfl⟩ : ∃ (j : Fin 64) (l : Fin 128), z = (ix2 j l : S64x128.Idx) := ⟨z 0, z 1, eq_ix2 z⟩
  rw [tabVec_apply, packTab_byte x b hb]
  unfold tabAt
  have h0 : (y 0 : Nat) = 0 + j.val := hz 0
  have h1 : (y 1 : Nat) = 128 * b + l.val := hz 1
  congr 3
  congr 1
  · exact Fin.ext h1.symm
  · exact Fin.ext (by rw [h0, Nat.zero_add])

theorem scales_allAt (c : Dev nD) (arg5 : Memref sig .tc .vmem S512x64 .i8) (harg5 : arg5.IsWhole) (x3 : Vec Ideal S512x64 .i8)
    (y : S64x512.Idx) : View.AllAt (kernelRun0_A.sl.HS1_4 (F := Ideal) c arg5 harg5 x3) y (tabAt x3 y) := by
  unfold kernelRun0_A.sl.HS1_4
  refine View.allAt_cons_unit _ _ _ _ _ (tab_tile arg5 harg5 x3 _ 3 (by decide) y) ?_
  refine View.allAt_cons_unit _ _ _ _ _ (tab_tile arg5 harg5 x3 _ 2 (by decide) y) ?_
  refine View.allAt_cons_unit _ _ _ _ _ (tab_tile arg5 harg5 x3 _ 1 (by decide) y) ?_
  refine View.allAt_cons_unit _ _ _ _ _ (tab_tile arg5 harg5 x3 _ 0 (by decide) y) ?_
  exact View.allAt_nil _ _

theorem zeros_allAt (c : Dev nD) (arg6 : Memref sig .tc .vmem S512x64 .i8) (harg6 : arg6.IsWhole) (x4 : Vec Ideal S512x64 .i8)
    (y : S64x512.Idx) : View.AllAt (kernelRun0_A.sl.HS2_4 (F := Ideal) c arg6 harg6 x4) y (tabAt x4 y) := by
  unfold kernelRun0_A.sl.HS2_4
  refine View.allAt_cons_unit _ _ _ _ _ (tab_tile arg6 harg6 x4 _ 3 (by decide) y) ?_
  refine View.allAt_cons_unit _ _ _ _ _ (tab_tile arg6 harg6 x4 _ 2 (by decide) y) ?_
  refine View.allAt_cons_unit _ _ _ _ _ (tab_tile arg6 harg6 x4 _ 1 (by decide) y) ?_
  refine View.allAt_cons_unit _ _ _ _ _ (tab_tile arg6 harg6 x4 _ 0 (by decide) y) ?_
  exact View.allAt_nil _ _

/-- The expanded scales, at a word. -/
theorem scales_canon (c : Dev nD) (arg5 : Memref sig .tc .vmem S512x64 .i8) (harg5 : arg5.IsWhole) (x3 : Vec Ideal S512x64 .i8)
    (y : S64x512.Idx) : View.canon (kernelRun0_A.sl.HS1_4 (F := Ideal) c arg5 harg5 x3) y = tabAt x3 y :=
  View.canon_eq_of_allAt _ _ _ (View.cover_of_tiledL (kernelRun0_A.sl.HS1_4 (F := Ideal) c arg5 harg5 x3) S64x128.size (by sl_kernel_rfl) y) (scales_allAt c arg5 harg5 x3 y)

/-- The expanded zeros, at a word. -/
theorem zeros_canon (c : Dev nD) (arg6 : Memref sig .tc .vmem S512x64 .i8) (harg6 : arg6.IsWhole) (x4 : Vec Ideal S512x64 .i8)
    (y : S64x512.Idx) : View.canon (kernelRun0_A.sl.HS2_4 (F := Ideal) c arg6 harg6 x4) y = tabAt x4 y :=
  View.canon_eq_of_allAt _ _ _ (View.cover_of_tiledL (kernelRun0_A.sl.HS2_4 (F := Ideal) c arg6 harg6 x4) S64x128.size (by sl_kernel_rfl) y) (zeros_allAt c arg6 harg6 x4 y)

end Cert.W4A8

end
-- ==== Proof.Tile.lean ====
/- One stored tile of dequantised weights: 64 rows of one group by 128 columns, at its place in the weight scratch. -/
module

public import proofs.«01_k».proof.Proof.Tables

@[expose] public section

set_option maxRecDepth 16384

noncomputable section

namespace Cert.W4A8

open Cert.KernelIdeal Cert.KernelIdeal.Gen Idealize.ShloMosaic Idealize.ShloMosaic.TcCoe Idealize.SL.Sem

/-- The weight of input channel `y 0` and local column `y 1`: nibble times its group's scale, less the group's zero. -/
def weightAt (x2 : Vec Ideal S512x2048 .i8) (x3 x4 : Vec Ideal S512x64 .i8) (y : S4096x512.Idx) : EReal :=
  nibR (x2 (ix2 (y 1) ⟨(y 0).val / 2, by have := (y 0).isLt; simp only [S4096x512] at this; change (y 0).val < 4096 at this; omega⟩))
      ((y 0).val % 2)
    * byteR (x3 (ix2 (y 1) ⟨(y 0).val / 64, by have := (y 0).isLt; change (y 0).val < 4096 at this; omega⟩))
    - byteR (x4 (ix2 (y 1) ⟨(y 0).val / 64, by have := (y 0).isLt; change (y 0).val < 4096 at this; omega⟩))

/-- A 128-column slab of the packed weights as loaded. -/
theorem readSlab (arg : Memref sig .tc .vmem S512x2048 .i8) (harg : arg.IsWhole) (x : Vec Ideal S512x2048 .i8) (o : ℕ) (ho : o + 128 ≤ 2048)
    (inb) (n : Fin 512) (j : Fin 128) :
    View.readAt (Elt Ideal) arg.view (Rect.unit (s := S512x2048) ![0, o] S512x128.size inb).toLoadRect (harg.unread x) (ix2 n j)
      = x (ix2 n ⟨o + j.val, by omega⟩) := by
  rw [Memref.IsWhole.readAt_unread]
  congr 1
  funext a
  apply Fin.ext
  refine (Rect.idx_unit_val _ _ _ _ _).trans ?_
  fin_cases a
  · exact Nat.zero_add _
  · rfl

/-- A row of the expanded scales as read back. -/
theorem readScales (c : Dev nD) (arg5 : Memref sig .tc .vmem S512x64 .i8) (harg5 : arg5.IsWhole) (arg10 : Memref sig .tc .vmem S64x512 .i32)
    (x3 : Vec Ideal S512x64 .i8) (r o : ℕ) (hr : r < 64) (ho : o + 128 ≤ 512) (inb) (l : Fin 128) :
    arg10.view.readCov (kernelRun0_A.sl.HS1_4 (F := Ideal) c arg5 harg5 x3) (Rect.unit (s := S64x512) ![r, o] S1x128.size inb).toLoadRect (ix2 0 l)
      = twinWord ((x3 (ix2 ⟨o + l.val, by omega⟩ ⟨r, hr⟩)).setWidth 32) := by
  refine (congrFun (View.readCov_eq_canon' _ _ _) _).trans ((scales_canon _ _ _ _ _).trans ?_)
  unfold tabAt
  congr 3
  have e1 : (Rect.unit (s := S64x512) ![r, o] S1x128.size inb).idx (ix2 0 l) 1 = (⟨o + l.val, by omega⟩ : Fin 512) :=
    Fin.ext (Rect.idx_unit_val _ _ _ _ _)
  have e0 : (Rect.unit (s := S64x512) ![r, o] S1x128.size inb).idx (ix2 0 l) 0 = (⟨r, hr⟩ : Fin 64) :=
    Fin.ext (Rect.idx_unit_val _ _ _ _ _)
  rw [e0, e1]

theorem readZeros (c : Dev nD) (arg6 : Memref sig .tc .vmem S512x64 .i8) (harg6 : arg6.IsWhole) (arg11 : Memref sig .tc .vmem S64x512 .i32)
    (x4 : Vec Ideal S512x64 .i8) (r o : ℕ) (hr : r < 64) (ho : o + 128 ≤ 512) (inb) (l : Fin 128) :
    arg11.view.readCov (kernelRun0_A.sl.HS2_4 (F := Ideal) c arg6 harg6 x4) (Rect.unit (s := S64x512) ![r, o] S1x128.size inb).toLoadRect (ix2 0 l)
      = twinWord ((x4 (ix2 ⟨o + l.val, by omega⟩ ⟨r, hr⟩)).setWidth 32) := by
  refine (congrFun (View.readCov_eq_canon' _ _ _) _).trans ((zeros_canon _ _ _ _ _).trans ?_)
  unfold tabAt
  congr 3
  have e1 : (Rect.unit (s := S64x512) ![r, o] S1x128.size inb).idx (ix2 0 l) 1 = (⟨o + l.val, by omega⟩ : Fin 512) :=
    Fin.ext (Rect.idx_unit_val _ _ _ _ _)
  have e0 : (Rect.unit (s := S64x512) ![r, o] S1x128.size inb).idx (ix2 0 l) 0 = (⟨r, hr⟩ : Fin 64) :=
    Fin.ext (Rect.idx_unit_val _ _ _ _ _)
  rw [e0, e1]

/-- TILE (k, g, b): rows of group `4k + g`, column block `b`. -/
theorem tile_ok (c : Dev nD) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole)
    (arg10 : Memref sig .tc .vmem S64x512 .i32) (arg11 : Memref sig .tc .vmem S64x512 .i32)
    (x2 : Vec Ideal S512x2048 .i8) (x3 x4 : Vec Ideal S512x64 .i8) (y : S4096x512.Idx)
    (k g b : ℕ) (hk : k < 16) (hg : g < 4) (hb : b < 4) (inbv) (inbs) (inbz) (hs : S128x128.Slices ![32 * g, 0] S32x128) :
    View.TileAt (Val := Elt Ideal) (S := S4096x512) (e := .bf16) y ![64 * (4 * k + g), 128 * b] S64x128.size
      (tileVec (packVec (View.readAt (Elt Ideal) arg4.view (Rect.unit (s := S512x2048) ![0, 128 * k] S512x128.size inbv).toLoadRect (harg4.unread x2)))
        ![32 * g, 0] hs (BitVec.ofNat 32 (8 * b))
        (arg10.view.readCov (kernelRun0_A.sl.HS1_4 (F := Ideal) c arg5 harg5 x3) (Rect.unit (s := S64x512) ![4 * k + g, 128 * b] S1x128.size inbs).toLoadRect)
        (arg11.view.readCov (kernelRun0_A.sl.HS2_4 (F := Ideal) c arg6 harg6 x4) (Rect.unit (s := S64x512) ![4 * k + g, 128 * b] S1x128.size inbz).toLoadRect))
      (weightAt x2 x3 x4 y) := by
  intro z hz
  obtain ⟨i, l, rfl⟩ : ∃ (i : Fin 64) (l : Fin 128), z = (ix2 i l : S64x128.Idx) := ⟨z 0, z 1, eq_ix2 z⟩
  have h0 : (y 0 : Nat) = 64 * (4 * k + g) + i.val := hz 0
  have h1 : (y 1 : Nat) = 128 * b + l.val := hz 1
  have hi := i.isLt
  have hl := l.isLt
  rw [tileVec_apply _ (32 * g) hs (by omega) _ _ _ i l _ _ _
    (packVec_byte _ b hb ⟨32 * g + i.val / 2, by omega⟩ l)
    (readScales c arg5 harg5 arg10 x3 (4 * k + g) (128 * b) (by omega) (by omega) inbs l)
    (readZeros c arg6 harg6 arg11 x4 (4 * k + g) (128 * b) (by omega) (by omega) inbz l)]
  rw [readSlab arg4 harg4 x2 (128 * k) (by omega) inbv]
  unfold weightAt
  have e1 : (⟨128 * b + l.val, by omega⟩ : Fin 512) = y 1 := Fin.ext h1.symm
  have e2 : (y 0).val / 2 = 128 * k + (32 * g + i.val / 2) := by omega
  have e3 : (y 0).val / 64 = 4 * k + g := by omega
  have e4 : (y 0).val % 2 = i.val % 2 := by omega
  simp only [e1, e2, e3, e4]

end Cert.W4A8

end
-- ==== Proof.Weights.lean ====
/- The weight scratch after the first visit to a column block: its 256 stored tiles are the tiles of `Tile.lean`, so the
   scratch holds the dequantised weights. -/
module

public import proofs.«01_k».proof.Proof.Tile

@[expose] public section

set_option maxRecDepth 65536
set_option maxHeartbeats 8000000

noncomputable section

namespace Cert.W4A8

open Cert.KernelIdeal Cert.KernelIdeal.Gen Idealize.ShloMosaic Idealize.ShloMosaic.TcCoe Idealize.SL.Sem

/-- Every stored tile, where it lies, holds the weights. -/
theorem weights_allAt (c : Dev nD) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole)
    (arg10 : Memref sig .tc .vmem S64x512 .i32) (arg11 : Memref sig .tc .vmem S64x512 .i32)
    (x2 : Vec Ideal S512x2048 .i8) (x3 x4 : Vec Ideal S512x64 .i8) (y : S4096x512.Idx) :
    View.AllAt (kernelRun0_A.sl.HS0_256 (F := Ideal) c arg4 harg4 arg5 harg5 arg6 harg6 arg10 arg11 x2 x3 x4) y (weightAt x2 x3 x4 y) := by
  unfold kernelRun0_A.sl.HS0_256
  have T := fun (k g b : ℕ) hk hg hb inbv inbs inbz hs =>
    tile_ok c arg4 harg4 arg5 harg5 arg6 harg6 arg10 arg11 x2 x3 x4 y k g b hk hg hb inbv inbs inbz hs
  refine View.allAt_cons_unit _ _ _ _ _ (T 15 3 3 (by decide) (by decide) (by decide) inb_S512x2048_S512x128_0_1920 inb_S64x512_S1x128_63_384 inb_S64x512_S1x128_63_384 slices_S128x128_o96_0_S32x128) ?_
  refine View.allAt_cons_unit _ _ _ _ _ (T 15 2 3 (by decide) (by decide) (by decide) inb_S512x2048_S512x128_0_1920 inb_S64x512_S1x128_62_384 inb_S64x512_S1x128_62_384 slices_S128x128_o64_0_S32x128) ?_
  refine View.allAt_cons_unit _ _ _ _ _ (T 15 1 3 (by decide) (by decide) (by decide) inb_S512x2048_S512x128_0_1920 inb_S64x512_S1x128_61_384 inb_S64x512_S1x128_61_384 slices_S128x128_o32_0_S32x128) ?_
  refine View.allAt_cons_unit _ _ _ _ _ (T 15 0 3 (by decide) (by decide) (by decide) inb_S512x2048_S512x128_0_1920 inb_S64x512_S1x128_60_384 inb_S64x512_S1x128_60_384 slices_S128x128_o0_0_S32x128) ?_
  refine View.allAt_cons_unit _ _ _ _ _ (T 15 3 2 (by decide) (by decide) (by decide) inb_S512x2048_S512x128_0_1920 inb_S64x512_S1x128_63_256 inb_S64x512_S1x128_63_256 slices_S128x128_o96_0_S32x128) ?_
  refine View.allAt_cons_unit _ _ _ _ _ (T 15 2 2 (by decide) (by decide) (by decide) inb_S512x2048_S512x128_0_1920 inb_S64x512_S1x128_62_256 inb_S64x512_S1x128_62_256 slices_S128x128_o64_0_S32x128) ?_
  refine View.allAt_cons_unit _ _ _ _ _ (T 15 1 2 (by decide) (by decide) (by decide) inb_S512x2048_S512x128_0_1920 inb_S64x512_S1x128_61_256 inb_S64x512_S1x128_61_256 slices_S128x128_o32_0_S32x128) ?_
  refine View.allAt_cons_unit _ _ _ _ _ (T 15 0 2 (by decide) (by decide) (by decide) inb_S512x2048_S512x128_0_1920 inb_S64x512_S1x128_60_256 inb_S64x512_S1x128_60_256 slices_S128x128_o0_0_S32x128) ?_
  refine View.allAt_cons_unit _ _ _ _ _ (T 15 3 1 (by decide) (by decide) (by decide) inb_S512x2048_S512x128_0_1920 inb_S64x512_S1x128_63_128 inb_S64x512_S1x128_63_128 slices_S128x128_o96_0_S32x128) ?_
  refine View.allAt_cons_unit _ _ _ _ _ (T 15 2 1 (by decide) (by decide) (by decide) inb_S512x2048_S512x128_0_1920 inb_S64x512_S1x128_62_128 inb_S64x512_S1x128_62_128 slices_S128x128_o64_0_S32x128) ?_
  refine View.allAt_cons_unit _ _ _ _ _ (T 15 1 1 (by decide) (by decide) (by decide) inb_S512x2048_S512x128_0_1920 inb_S64x512_S1x128_61_128 inb_S64x512_S1x128_61_128 slices_S128x128_o32_0_S32x128) ?_
  refine View.allAt_cons_unit _ _ _ _ _ (T 15 0 1 (by decide) (by decide) (by decide) inb_S512x2048_S512x128_0_1920 inb_S64x512_S1x128_60_128 inb_S64x512_S1x128_60_128 slices_S128x128_o0_0_S32x128) ?_
  refine View.allAt_cons_unit _ _ _ _ _ (T 15 3 0 (by decide) (by decide) (by decide) inb_S512x2048_S512x128_0_1920 inb_S64x512_S1x128_63_0 inb_S64x512_S1x128_63_0 slices_S128x128_o96_0_S32x128) ?_
  refine View.allAt_cons_unit _ _ _ _ _ (T 15 2 0 (by decide) (by decide) (by decide) inb_S512x2048_S512x128_0_1920 inb_S64x512_S1x128_62_0 inb_S64x512_S1x128_62_0 slices_S128x128_o64_0_S32x128) ?_
  refine View.allAt_cons_unit _ _ _ _ _ (T 15 1 0 (by decide) (by decide) (by decide) inb_S512x2048_S512x128_0_1920 inb_S64x512_S1x128_61_0 inb_S64x512_S1x128_61_0 slices_S128x128_o32_0_S32x128) ?_
  refine View.allAt_cons_unit _ _ _ _ _ (T 15 0 0 (by decide) (by decide) (by decide) inb_S512x2048_S512x128_0_1920 inb_S64x512_S1x128_60_0 inb_S64x512_S1x128_60_0 slices_S128x128_o0_0_S32x128) ?_
  refine View.allAt_cons_unit _ _ _ _ _ (T 14 3 3 (by decide) (by decide) (by decide) inb_S512x2048_S512x128_0_1792 inb_S64x512_S1x128_59_384 inb_S64x512_S1x128_59_384 slices_S128x128_o96_0_S32x128) ?_
  refine View.allAt_cons_unit _ _ _ _ _ (T 14 2 3 (by decide) (by decide) (by decide) inb_S512x2048_S512x128_0_1792 inb_S64x512_S1x128_58_384 inb_S64x512_S1x128_58_384 slices_S128x128_o64_0_S32x128) ?_
  refine View.allAt_cons_unit _ _ _ _ _ (T 14 1 3 (by decide) (by decide) (by decide) inb_S512x2048_S512x128_0_1792 inb_S64x512_S1x128_57_384 inb_S64x512_S1x128_57_384 slices_S128x128_o32_0_S32x128) ?_
  refine View.allAt_cons_unit _ _ _ _ _ (T 14 0 3 (by decide) (by decide) (by decide) inb_S512x2048_S512x128_0_1792 inb_S64x512_S1x128_56_384 inb_S64x512_S1x128_56_384 slices_S128x128_o0_0_S32x128) ?_
  refine View.allAt_cons_unit _ _ _ _ _ (T 14 3 2 (by decide) (by decide) (by decide) inb_S512x2048_S512x128_0_1792 inb_S64x512_S1x128_59_256 inb_S64x512_S1x128_59_256 slices_S128x128_o96_0_S32x128) ?_
  refine View.allAt_cons_unit _ _ _ _ _ (T 14 2 2 (by decide) (by decide) (by decide) inb_S512x2048_S512x128_0_1792 inb_S64x512_S1x128_58_256 inb_S64x512_S1x128_58_256 slices_S128x128_o64_0_S32x128) ?_
  refine View.allAt_cons_unit _ _ _ _ _ (T 14 1 2 (by decide) (by decide) (by decide) inb_S512x2048_S512x128_0_1792 inb_S64x512_S1x128_57_256 inb_S64x512_S1x128_57_256 slices_S128x128_o32_0_S32x128) ?_
  refine View.allAt_cons_unit _ _ _ _ _ (T 14 0 2 (by decide) (by decide) (by decide) inb_S512x2048_S512x128_0_1792 inb_S64x512_S1x128_56_256 inb_S64x512_S1x128_56_256 slices_S128x128_o0_0_S32x128) ?_
  refine View.allAt_cons_unit _ _ _ _ _ (T 14 3 1 (by decide) (by decide) (by decide) inb_S512x2048_S512x128_0_1792 inb_S64x512_S1x128_59_128 inb_S64x512_S1x128_59_128 slices_S128x128_o96_0_S32x128) ?_
  refine View.allAt_cons_unit _ _ _ _ _ (T 14 2 1 (by decide) (by decide) (by decide) inb_S512x2048_S512x128_0_1792 inb_S64x512_S1x128_58_128 inb_S64x512_S1x128_58_128 slices_S128x128_o64_0_S32x128) ?_
  refine View.allAt_cons_unit _ _ _ _ _ (T 14 1 1 (by decide) (by decide) (by decide) inb_S512x2048_S512x128_0_1792 inb_S64x512_S1x128_57_128 inb_S64x512_S1x128_57_128 slices_S128x128_o32_0_S32x128) ?_
  refine View.allAt_cons_unit _ _ _ _ _ (T 14 0 1 (by decide) (by decide) (by decide) inb_S512x2048_S512x128_0_1792 inb_S64x512_S1x128_56_128 inb_S64x512_S1x128_56_128 slices_S128x128_o0_0_S32x128) ?_
  refine View.allAt_cons_unit _ _ _ _ _ (T 14 3 0 (by decide) (by decide) (by decide) inb_S512x2048_S512x128_0_1792 inb_S64x512_S1x128_59_0 inb_S64x512_S1x128_59_0 slices_S128x128_o96_0_S32x128) ?_
  refine View.allAt_cons_unit _ _ _ _ _ (T 14 2 0 (by decide) (by decide) (by decide) inb_S512x2048_S512x128_0_1792 inb_S64x512_S1x128_58_0 inb_S64x512_S1x128_58_0 slices_S128x128_o64_0_S32x128) ?_
  refine View.allAt_cons_unit _ _ _ _ _ (T 14 1 0 (by decide) (by decide) (by decide) inb_S512x2048_S512x128_0_1792 inb_S64x512_S1x128_57_0 inb_S64x512_S1x128_57_0 slices_S128x128_o32_0_S32x128) ?_
  refine View.allAt_cons_unit _ _ _ _ _ (T 14 0 0 (by decide) (by decide) (by decide) inb_S512x2048_S512x128_0_1792 inb_S64x512_S1x128_56_0 inb_S64x512_S1x128_56_0 slices_S128x128_o0_0_S32x128) ?_
  refine View.allAt_cons_unit _ _ _ _ _ (T 13 3 3 (by decide) (by decide) (by decide) inb_S512x2048_S512x128_0_1664 inb_S64x512_S1x128_55_384 inb_S64x512_S1x128_55_384 slices_S128x128_o96_0_S32x128) ?_
  refine View.allAt_cons_unit _ _ _ _ _ (T 13 2 3 (by decide) (by decide) (by decide) inb_S512x2048_S512x128_0_1664 inb_S64x512_S1x128_54_384 inb_S64x512_S1x128_54_384 slices_S128x128_o64_0_S32x128) ?_
  refine View.allAt_cons_unit _ _ _ _ _ (T 13 1 3 (by decide) (by decide) (by decide) inb_S512x2048_S512x128_0_1664 inb_S64x512_S1x128_53_384 inb_S64x512_S1x128_53_384 slices_S128x128_o32_0_S32x128) ?_
  refine View.allAt_cons_unit _ _ _ _ _ (T 13 0 3 (by decide) (by decide) (by decide) inb_S512x2048_S512x128_0_1664 inb_S64x512_S1x128_52_384 inb_S64x512_S1x128_52_384 slices_S128x128_o0_0_S32x128) ?_
  refine View.allAt_cons_unit _ _ _ _ _ (T 13 3 2 (by decide) (by decide) (by decide) inb_S512x2048_S512x128_0_1664 inb_S64x512_S1x128_55_256 inb_S64x512_S1x128_55_256 slices_S128x128_o96_0_S32x128) ?_
  refine View.allAt_cons_unit _ _ _ _ _ (T 13 2 2 (by decide) (by decide) (by decide) inb_S512x2048_S512x128_0_1664 inb_S64x512_S1x128_54_256 inb_S64x512_S1x128_54_256 slices_S128x128_o64_0_S32x128) ?_
  refine View.allAt_cons_unit _ _ _ _ _ (T 13 1 2 (by decide) (by decide) (by decide) inb_S512x2048_S512x128_0_1664 inb_S64x512_S1x128_53_256 inb_S64x512_S1x128_53_256 slices_S128x128_o32_0_S32x128) ?_
  refine View.allAt_cons_unit _ _ _ _ _ (T 13 0 2 (by decide) (by decide) (by decide) inb_S512x2048_S512x128_0_1664 inb_S64x512_S1x128_52_256 inb_S64x512_S1x128_52_256 slices_S128x128_o0_0_S32x128) ?_
  refine View.allAt_cons_unit _ _ _ _ _ (T 13 3 1 (by decide) (by decide) (by decide) inb_S512x2048_S512x128_0_1664 inb_S64x512_S1x128_55_128 inb_S64x512_S1x128_55_128 slices_S128x128_o96_0_S32x128) ?_
  refine View.allAt_cons_unit _ _ _ _ _ (T 13 2 1 (by decide) (by decide) (by decide) inb_S512x2048_S512x128_0_1664 inb_S64x512_S1x128_54_128 inb_S64x512_S1x128_54_128 slices_S128x128_o64_0_S32x128) ?_
  refine View.allAt_cons_unit _ _ _ _ _ (T 13 1 1 (by decide) (by decide) (by decide) inb_S512x2048_S512x128_0_1664 inb_S64x512_S1x128_53_128 inb_S64x512_S1x128_53_128 slices_S128x128_o32_0_S32x128) ?_
  refine View.allAt_cons_unit _ _ _ _ _ (T 13 0 1 (by decide) (by decide) (by decide) inb_S512x2048_S512x128_0_1664 inb_S64x512_S1x128_52_128 inb_S64x512_S1x128_52_128 slices_S128x128_o0_0_S32x128) ?_
  refine View.allAt_cons_unit _ _ _ _ _ (T 13 3 0 (by decide) (by decide) (by decide) inb_S512x2048_S512x128_0_1664 inb_S64x512_S1x128_55_0 inb_S64x512_S1x128_55_0 slices_S128x128_o96_0_S32x128) ?_
  refine View.allAt_cons_unit _ _ _ _ _ (T 13 2 0 (by decide) (by decide) (by decide) inb_S512x2048_S512x128_0_1664 inb_S64x512_S1x128_54_0 inb_S64x512_S1x128_54_0 slices_S128x128_o64_0_S32x128) ?_
  refine View.allAt_cons_unit _ _ _ _ _ (T 13 1 0 (by decide) (by decide) (by decide) inb_S512x2048_S512x128_0_1664 inb_S64x512_S1x128_53_0 inb_S64x512_S1x128_53_0 slices_S128x128_o32_0_S32x128) ?_
  refine View.allAt_cons_unit _ _ _ _ _ (T 13 0 0 (by decide) (by decide) (by decide) inb_S512x2048_S512x128_0_1664 inb_S64x512_S1x128_52_0 inb_S64x512_S1x128_52_0 slices_S128x128_o0_0_S32x128) ?_
  refine View.allAt_cons_unit _ _ _ _ _ (T 12 3 3 (by decide) (by decide) (by decide) inb_S512x2048_S512x128_0_1536 inb_S64x512_S1x128_51_384 inb_S64x512_S1x128_51_384 slices_S128x128_o96_0_S32x128) ?_
  refine View.allAt_cons_unit _ _ _ _ _ (T 12 2 3 (by decide) (by decide) (by decide) inb_S512x2048_S512x128_0_1536 inb_S64x512_S1x128_50_384 inb_S64x512_S1x128_50_384 slices_S128x128_o64_0_S32x128) ?_
  refine View.allAt_cons_unit _ _ _ _ _ (T 12 1 3 (by decide) (by decide) (by decide) inb_S512x2048_S512x128_0_1536 inb_S64x512_S1x128_49_384 inb_S64x512_S1x128_49_384 slices_S128x128_o32_0_S32x128) ?_
  refine View.allAt_cons_unit _ _ _ _ _ (T 12 0 3 (by decide) (by decide) (by decide) inb_S512x2048_S512x128_0_1536 inb_S64x512_S1x128_48_384 inb_S64x512_S1x128_48_384 slices_S128x128_o0_0_S32x128) ?_
  refine View.allAt_cons_unit _ _ _ _ _ (T 12 3 2 (by decide) (by decide) (by decide) inb_S512x2048_S512x128_0_1536 inb_S64x512_S1x128_51_256 inb_S64x512_S1x128_51_256 slices_S128x128_o96_0_S32x128) ?_
  refine View.allAt_cons_unit _ _ _ _ _ (T 12 2 2 (by decide) (by decide) (by decide) inb_S512x2048_S512x128_0_1536 inb_S64x512_S1x128_50_256 inb_S64x512_S1x128_50_256 slices_S128x128_o64_0_S32x128) ?_
  refine View.allAt_cons_unit _ _ _ _ _ (T 12 1 2 (by decide) (by decide) (by decide) inb_S512x2048_S512x128_0_1536 inb_S64x512_S1x128_49_256 inb_S64x512_S1x128_49_256 slices_S128x128_o32_0_S32x128) ?_
  refine View.allAt_cons_unit _ _ _ _ _ (T 12 0 2 (by decide) (by decide) (by decide) inb_S512x2048_S512x128_0_1536 inb_S64x512_S1x128_48_256 inb_S64x512_S1x128_48_256 slices_S128x128_o0_0_S32x128) ?_
  refine View.allAt_cons_unit _ _ _ _ _ (T 12 3 1 (by decide) (by decide) (by decide) inb_S512x2048_S512x128_0_1536 inb_S64x512_S1x128_51_128 inb_S64x512_S1x128_51_128 slices_S128x128_o96_0_S32x128) ?_
  refine View.allAt_cons_unit _ _ _ _ _ (T 12 2 1 (by decide) (by decide) (by decide) inb_S512x2048_S512x128_0_1536 inb_S64x512_S1x128_50_128 inb_S64x512_S1x128_50_128 slices_S128x128_o64_0_S32x128) ?_
  refine View.allAt_cons_unit _ _ _ _ _ (T 12 1 1 (by decide) (by decide) (by decide) inb_S512x2048_S512x128_0_1536 inb_S64x512_S1x128_49_128 inb_S64x512_S1x128_49_128 slices_S128x128_o32_0_S32x128) ?_
  refine View.allAt_cons_unit _ _ _ _ _ (T 12 0 1 (by decide) (by decide) (by decide) inb_S512x2048_S512x128_0_1536 inb_S64x512_S1x128_48_128 inb_S64x512_S1x128_48_128 slices_S128x128_o0_0_S32x128) ?_
  refine View.allAt_cons_unit _ _ _ _ _ (T 12 3 0 (by decide) (by decide) (by decide) inb_S512x2048_S512x128_0_1536 inb_S64x512_S1x128_51_0 inb_S64x512_S1x128_51_0 slices_S128x128_o96_0_S32x128) ?_
  refine View.allAt_cons_unit _ _ _ _ _ (T 12 2 0 (by decide) (by decide) (by decide) inb_S512x2048_S512x128_0_1536 inb_S64x512_S1x128_50_0 inb_S64x512_S1x128_50_0 slices_S128x128_o64_0_S32x128) ?_
  refine View.allAt_cons_unit _ _ _ _ _ (T 12 1 0 (by decide) (by decide) (by decide) inb_S512x2048_S512x128_0_1536 inb_S64x512_S1x128_49_0 inb_S64x512_S1x128_49_0 slices_S128x128_o32_0_S32x128) ?_
  refine View.allAt_cons_unit _ _ _ _ _ (T 12 0 0 (by decide) (by decide) (by decide) inb_S512x2048_S512x128_0_1536 inb_S64x512_S1x128_48_0 inb_S64x512_S1x128_48_0 slices_S128x128_o0_0_S32x128) ?_
  refine View.allAt_cons_unit _ _ _ _ _ (T 11 3 3 (by decide) (by decide) (by decide) inb_S512x2048_S512x128_0_1408 inb_S64x512_S1x128_47_384 inb_S64x512_S1x128_47_384 slices_S128x128_o96_0_S32x128) ?_
  refine View.allAt_cons_unit _ _ _ _ _ (T 11 2 3 (by decide) (by decide) (by decide) inb_S512x2048_S512x128_0_1408 inb_S64x512_S1x128_46_384 inb_S64x512_S1x128_46_384 slices_S128x128_o64_0_S32x128) ?_
  refine View.allAt_cons_unit _ _ _ _ _ (T 11 1 3 (by decide) (by decide) (by decide) inb_S512x2048_S512x128_0_1408 inb_S64x512_S1x128_45_384 inb_S64x512_S1x128_45_384 slices_S128x128_o32_0_S32x128) ?_
  refine View.allAt_cons_unit _ _ _ _ _ (T 11 0 3 (by decide) (by decide) (by decide) inb_S512x2048_S512x128_0_1408 inb_S64x512_S1x128_44_384 inb_S64x512_S1x128_44_384 slices_S128x128_o0_0_S32x128) ?_
  refine View.allAt_cons_unit _ _ _ _ _ (T 11 3 2 (by decide) (by decide) (by decide) inb_S512x2048_S512x128_0_1408 inb_S64x512_S1x128_47_256 inb_S64x512_S1x128_47_256 slices_S128x128_o96_0_S32x128) ?_
  refine View.allAt_cons_unit _ _ _ _ _ (T 11 2 2 (by decide) (by decide) (by decide) inb_S512x2048_S512x128_0_1408 inb_S64x512_S1x128_46_256 inb_S64x512_S1x128_46_256 slices_S128x128_o64_0_S32x128) ?_
  refine View.allAt_cons_unit _ _ _ _ _ (T 11 1 2 (by decide) (by decide) (by decide) inb_S512x2048_S512x128_0_1408 inb_S64x512_S1x128_45_256 inb_S64x512_S1x128_45_256 slices_S128x128_o32_0_S32x128) ?_
  refine View.allAt_cons_unit _ _ _ _ _ (T 11 0 2 (by decide) (by decide) (by decide) inb_S512x2048_S512x128_0_1408 inb_S64x512_S1x128_44_256 inb_S64x512_S1x128_44_256 slices_S128x128_o0_0_S32x128) ?_
  refine View.allAt_cons_unit _ _ _ _ _ (T 11 3 1 (by decide) (by decide) (by decide) inb_S512x2048_S512x128_0_1408 inb_S64x512_S1x128_47_128 inb_S64x512_S1x128_47_128 slices_S128x128_o96_0_S32x128) ?_
  refine View.allAt_cons_unit _ _ _ _ _ (T 11 2 1 (by decide) (by decide) (by decide) inb_S512x2048_S512x128_0_1408 inb_S64x512_S1x128_46_128 inb_S64x512_S1x128_46_128 slices_S128x128_o64_0_S32x128) ?_
  refine View.allAt_cons_unit _ _ _ _ _ (T 11 1 1 (by decide) (by decide) (by decide) inb_S512x2048_S512x128_0_1408 inb_S64x512_S1x128_45_128 inb_S64x512_S1x128_45_128 slices_S128x128_o32_0_S32x128) ?_
  refine View.allAt_cons_unit _ _ _ _ _ (T 11 0 1 (by decide) (by decide) (by decide) inb_S512x2048_S512x128_0_1408 inb_S64x512_S1x128_44_128 inb_S64x512_S1x128_44_128 slices_S128x128_o0_0_S32x128) ?_
  refine View.allAt_cons_unit _ _ _ _ _ (T 11 3 0 (by decide) (by decide) (by decide) inb_S512x2048_S512x128_0_1408 inb_S64x512_S1x128_47_0 inb_S64x512_S1x128_47_0 slices_S128x128_o96_0_S32x128) ?_
  refine View.allAt_cons_unit _ _ _ _ _ (T 11 2 0 (by decide) (by decide) (by decide) inb_S512x2048_S512x128_0_1408 inb_S64x512_S1x128_46_0 inb_S64x512_S1x128_46_0 slices_S128x128_o64_0_S32x128) ?_
  refine View.allAt_cons_unit _ _ _ _ _ (T 11 1 0 (by decide) (by decide) (by decide) inb_S512x2048_S512x128_0_1408 inb_S64x512_S1x128_45_0 inb_S64x512_S1x128_45_0 slices_S128x128_o32_0_S32x128) ?_
  refine View.allAt_cons_unit _ _ _ _ _ (T 11 0 0 (by decide) (by decide) (by decide) inb_S512x2048_S512x128_0_1408 inb_S64x512_S1x128_44_0 inb_S64x512_S1x128_44_0 slices_S128x128_o0_0_S32x128) ?_
  refine View.allAt_cons_unit _ _ _ _ _ (T 10 3 3 (by decide) (by decide) (by decide) inb_S512x2048_S512x128_0_1280 inb_S64x512_S1x128_43_384 inb_S64x512_S1x128_43_384 slices_S128x128_o96_0_S32x128) ?_
  refine View.allAt_cons_unit _ _ _ _ _ (T 10 2 3 (by decide) (by decide) (by decide) inb_S512x2048_S512x128_0_1280 inb_S64x512_S1x128_42_384 inb_S64x512_S1x128_42_384 slices_S128x128_o64_0_S32x128) ?_
  refine View.allAt_cons_unit _ _ _ _ _ (T 10 1 3 (by decide) (by decide) (by decide) inb_S512x2048_S512x128_0_1280 inb_S64x512_S1x128_41_384 inb_S64x512_S1x128_41_384 slices_S128x128_o32_0_S32x128) ?_
  refine View.allAt_cons_unit _ _ _ _ _ (T 10 0 3 (by decide) (by decide) (by decide) inb_S512x2048_S512x128_0_1280 inb_S64x512_S1x128_40_384 inb_S64x512_S1x128_40_384 slices_S128x128_o0_0_S32x128) ?_
  refine View.allAt_cons_unit _ _ _ _ _ (T 10 3 2 (by decide) (by decide) (by decide) inb_S512x2048_S512x128_0_1280 inb_S64x512_S1x128_43_256 inb_S64x512_S1x128_43_256 slices_S128x128_o96_0_S32x128) ?_
  refine View.allAt_cons_unit _ _ _ _ _ (T 10 2 2 (by decide) (by decide) (by decide) inb_S512x2048_S512x128_0_1280 inb_S64x512_S1x128_42_256 inb_S64x512_S1x128_42_256 slices_S128x128_o64_0_S32x128) ?_
  refine View.allAt_cons_unit _ _ _ _ _ (T 10 1 2 (by decide) (by decide) (by decide) inb_S512x2048_S512x128_0_1280 inb_S64x512_S1x128_41_256 inb_S64x512_S1x128_41_256 slices_S128x128_o32_0_S32x128) ?_
  refine View.allAt_cons_unit _ _ _ _ _ (T 10 0 2 (by decide) (by decide) (by decide) inb_S512x2048_S512x128_0_1280 inb_S64x512_S1x128_40_256 inb_S64x512_S1x128_40_256 slices_S128x128_o0_0_S32x128) ?_
  refine View.allAt_cons_unit _ _ _ _ _ (T 10 3 1 (by decide) (by decide) (by decide) inb_S512x2048_S512x128_0_1280 inb_S64x512_S1x128_43_128 inb_S64x512_S1x128_43_128 slices_S128x128_o96_0_S32x128) ?_
  refine View.allAt_cons_unit _ _ _ _ _ (T 10 2 1 (by decide) (by decide) (by decide) inb_S512x2048_S512x128_0_1280 inb_S64x512_S1x128_42_128 inb_S64x512_S1x128_42_128 slices_S128x128_o64_0_S32x128) ?_
  refine View.allAt_cons_unit _ _ _ _ _ (T 10 1 1 (by decide) (by decide) (by decide) inb_S512x2048_S512x128_0_1280 inb_S64x512_S1x128_41_128 inb_S64x512_S1x128_41_128 slices_S128x128_o32_0_S32x128) ?_
  refine View.allAt_cons_unit _ _ _ _ _ (T 10 0 1 (by decide) (by decide) (by decide) inb_S512x2048_S512x128_0_1280 inb_S64x512_S1x128_40_128 inb_S64x512_S1x128_40_128 slices_S128x128_o0_0_S32x128) ?_
  refine View.allAt_cons_unit _ _ _ _ _ (T 10 3 0 (by decide) (by decide) (by decide) inb_S512x2048_S512x128_0_1280 inb_S64x512_S1x128_43_0 inb_S64x512_S1x128_43_0 slices_S128x128_o96_0_S32x128) ?_
  refine View.allAt_cons_unit _ _ _ _ _ (T 10 2 0 (by decide) (by decide) (by decide) inb_S512x2048_S512x128_0_1280 inb_S64x512_S1x128_42_0 inb_S64x512_S1x128_42_0 slices_S128x128_o64_0_S32x128) ?_
  refine View.allAt_cons_unit _ _ _ _ _ (T 10 1 0 (by decide) (by decide) (by decide) inb_S512x2048_S512x128_0_1280 inb_S64x512_S1x128_41_0 inb_S64x512_S1x128_41_0 slices_S128x128_o32_0_S32x128) ?_
  refine View.allAt_cons_unit _ _ _ _ _ (T 10 0 0 (by decide) (by decide) (by decide) inb_S512x2048_S512x128_0_1280 inb_S64x512_S1x128_40_0 inb_S64x512_S1x128_40_0 slices_S128x128_o0_0_S32x128) ?_
  refine View.allAt_cons_unit _ _ _ _ _ (T 9 3 3 (by decide) (by decide) (by decide) inb_S512x2048_S512x128_0_1152 inb_S64x512_S1x128_39_384 inb_S64x512_S1x128_39_384 slices_S128x128_o96_0_S32x128) ?_
  refine View.allAt_cons_unit _ _ _ _ _ (T 9 2 3 (by decide) (by decide) (by decide) inb_S512x2048_S512x128_0_1152 inb_S64x512_S1x128_38_384 inb_S64x512_S1x128_38_384 slices_S128x128_o64_0_S32x128) ?_
  refine View.allAt_cons_unit _ _ _ _ _ (T 9 1 3 (by decide) (by decide) (by decide) inb_S512x2048_S512x128_0_1152 inb_S64x512_S1x128_37_384 inb_S64x512_S1x128_37_384 slices_S128x128_o32_0_S32x128) ?_
  refine View.allAt_cons_unit _ _ _ _ _ (T 9 0 3 (by decide) (by decide) (by decide) inb_S512x2048_S512x128_0_1152 inb_S64x512_S1x128_36_384 inb_S64x512_S1x128_36_384 slices_S128x128_o0_0_S32x128) ?_
  refine View.allAt_cons_unit _ _ _ _ _ (T 9 3 2 (by decide) (by decide) (by decide) inb_S512x2048_S512x128_0_1152 inb_S64x512_S1x128_39_256 inb_S64x512_S1x128_39_256 slices_S128x128_o96_0_S32x128) ?_
  refine View.allAt_cons_unit _ _ _ _ _ (T 9 2 2 (by decide) (by decide) (by decide) inb_S512x2048_S512x128_0_1152 inb_S64x512_S1x128_38_256 inb_S64x512_S1x128_38_256 slices_S128x128_o64_0_S32x128) ?_
  refine View.allAt_cons_unit _ _ _ _ _ (T 9 1 2 (by decide) (by decide) (by decide) inb_S512x2048_S512x128_0_1152 inb_S64x512_S1x128_37_256 inb_S64x512_S1x128_37_256 slices_S128x128_o32_0_S32x128) ?_
  refine View.allAt_cons_unit _ _ _ _ _ (T 9 0 2 (by decide) (by decide) (by decide) inb_S512x2048_S512x128_0_1152 inb_S64x512_S1x128_36_256 inb_S64x512_S1x128_36_256 slices_S128x128_o0_0_S32x128) ?_
  refine View.allAt_cons_unit _ _ _ _ _ (T 9 3 1 (by decide) (by decide) (by decide) inb_S512x2048_S512x128_0_1152 inb_S64x512_S1x128_39_128 inb_S64x512_S1x128_39_128 slices_S128x128_o96_0_S32x128) ?_
  refine View.allAt_cons_unit _ _ _ _ _ (T 9 2 1 (by decide) (by decide) (by decide) inb_S512x2048_S512x128_0_1152 inb_S64x512_S1x128_38_128 inb_S64x512_S1x128_38_128 slices_S128x128_o64_0_S32x128) ?_
  refine View.allAt_cons_unit _ _ _ _ _ (T 9 1 1 (by decide) (by decide) (by decide) inb_S512x2048_S512x128_0_1152 inb_S64x512_S1x128_37_128 inb_S64x512_S1x128_37_128 slices_S128x128_o32_0_S32x128) ?_
  refine View.allAt_cons_unit _ _ _ _ _ (T 9 0 1 (by decide) (by decide) (by decide) inb_S512x2048_S512x128_0_1152 inb_S64x512_S1x128_36_128 inb_S64x512_S1x128_36_128 slices_S128x128_o0_0_S32x128) ?_
  refine View.allAt_cons_unit _ _ _ _ _ (T 9 3 0 (by decide) (by decide) (by decide) inb_S512x2048_S512x128_0_1152 inb_S64x512_S1x128_39_0 inb_S64x512_S1x128_39_0 slices_S128x128_o96_0_S32x128) ?_
  refine View.allAt_cons_unit _ _ _ _ _ (T 9 2 0 (by decide) (by decide) (by decide) inb_S512x2048_S512x128_0_1152 inb_S64x512_S1x128_38_0 inb_S64x512_S1x128_38_0 slices_S128x128_o64_0_S32x128) ?_
  refine View.allAt_cons_unit _ _ _ _ _ (T 9 1 0 (by decide) (by decide) (by decide) inb_S512x2048_S512x128_0_1152 inb_S64x512_S1x128_37_0 inb_S64x512_S1x128_37_0 slices_S128x128_o32_0_S32x128) ?_
  refine View.allAt_cons_unit _ _ _ _ _ (T 9 0 0 (by decide) (by decide) (by decide) inb_S512x2048_S512x128_0_1152 inb_S64x512_S1x128_36_0 inb_S64x512_S1x128_36_0 slices_S128x128_o0_0_S32x128) ?_
  refine View.allAt_cons_unit _ _ _ _ _ (T 8 3 3 (by decide) (by decide) (by decide) inb_S512x2048_S512x128_0_1024 inb_S64x512_S1x128_35_384 inb_S64x512_S1x128_35_384 slices_S128x128_o96_0_S32x128) ?_
  refine View.allAt_cons_unit _ _ _ _ _ (T 8 2 3 (by decide) (by decide) (by decide) inb_S512x2048_S512x128_0_1024 inb_S64x512_S1x128_34_384 inb_S64x512_S1x128_34_384 slices_S128x128_o64_0_S32x128) ?_
  refine View.allAt_cons_unit _ _ _ _ _ (T 8 1 3 (by decide) (by decide) (by decide) inb_S512x2048_S512x128_0_1024 inb_S64x512_S1x128_33_384 inb_S64x512_S1x128_33_384 slices_S128x128_o32_0_S32x128) ?_
  refine View.allAt_cons_unit _ _ _ _ _ (T 8 0 3 (by decide) (by decide) (by decide) inb_S512x2048_S512x128_0_1024 inb_S64x512_S1x128_32_384 inb_S64x512_S1x128_32_384 slices_S128x128_o0_0_S32x128) ?_
  refine View.allAt_cons_unit _ _ _ _ _ (T 8 3 2 (by decide) (by decide) (by decide) inb_S512x2048_S512x128_0_1024 inb_S64x512_S1x128_35_256 inb_S64x512_S1x128_35_256 slices_S128x128_o96_0_S32x128) ?_
  refine View.allAt_cons_unit _ _ _ _ _ (T 8 2 2 (by decide) (by decide) (by decide) inb_S512x2048_S512x128_0_1024 inb_S64x512_S1x128_34_256 inb_S64x512_S1x128_34_256 slices_S128x128_o64_0_S32x128) ?_
  refine View.allAt_cons_unit _ _ _ _ _ (T 8 1 2 (by decide) (by decide) (by decide) inb_S512x2048_S512x128_0_1024 inb_S64x512_S1x128_33_256 inb_S64x512_S1x128_33_256 slices_S128x128_o32_0_S32x128) ?_
  refine View.allAt_cons_unit _ _ _ _ _ (T 8 0 2 (by decide) (by decide) (by decide) inb_S512x2048_S512x128_0_1024 inb_S64x512_S1x128_32_256 inb_S64x512_S1x128_32_256 slices_S128x128_o0_0_S32x128) ?_
  refine View.allAt_cons_unit _ _ _ _ _ (T 8 3 1 (by decide) (by decide) (by decide) inb_S512x2048_S512x128_0_1024 inb_S64x512_S1x128_35_128 inb_S64x512_S1x128_35_128 slices_S128x128_o96_0_S32x128) ?_
  refine View.allAt_cons_unit _ _ _ _ _ (T 8 2 1 (by decide) (by decide) (by decide) inb_S512x2048_S512x128_0_1024 inb_S64x512_S1x128_34_128 inb_S64x512_S1x128_34_128 slices_S128x128_o64_0_S32x128) ?_
  refine View.allAt_cons_unit _ _ _ _ _ (T 8 1 1 (by decide) (by decide) (by decide) inb_S512x2048_S512x128_0_1024 inb_S64x512_S1x128_33_128 inb_S64x512_S1x128_33_128 slices_S128x128_o32_0_S32x128) ?_
  refine View.allAt_cons_unit _ _ _ _ _ (T 8 0 1 (by decide) (by decide) (by decide) inb_S512x2048_S512x128_0_1024 inb_S64x512_S1x128_32_128 inb_S64x512_S1x128_32_128 slices_S128x128_o0_0_S32x128) ?_
  refine View.allAt_cons_unit _ _ _ _ _ (T 8 3 0 (by decide) (by decide) (by decide) inb_S512x2048_S512x128_0_1024 inb_S64x512_S1x128_35_0 inb_S64x512_S1x128_35_0 slices_S128x128_o96_0_S32x128) ?_
  refine View.allAt_cons_unit _ _ _ _ _ (T 8 2 0 (by decide) (by decide) (by decide) inb_S512x2048_S512x128_0_1024 inb_S64x512_S1x128_34_0 inb_S64x512_S1x128_34_0 slices_S128x128_o64_0_S32x128) ?_
  refine View.allAt_cons_unit _ _ _ _ _ (T 8 1 0 (by decide) (by decide) (by decide) inb_S512x2048_S512x128_0_1024 inb_S64x512_S1x128_33_0 inb_S64x512_S1x128_33_0 slices_S128x128_o32_0_S32x128) ?_
  refine View.allAt_cons_unit _ _ _ _ _ (T 8 0 0 (by decide) (by decide) (by decide) inb_S512x2048_S512x128_0_1024 inb_S64x512_S1x128_32_0 inb_S64x512_S1x128_32_0 slices_S128x128_o0_0_S32x128) ?_
  refine View.allAt_cons_unit _ _ _ _ _ (T 7 3 3 (by decide) (by decide) (by decide) inb_S512x2048_S512x128_0_896 inb_S64x512_S1x128_31_384 inb_S64x512_S1x128_31_384 slices_S128x128_o96_0_S32x128) ?_
  refine View.allAt_cons_unit _ _ _ _ _ (T 7 2 3 (by decide) (by decide) (by decide) inb_S512x2048_S512x128_0_896 inb_S64x512_S1x128_30_384 inb_S64x512_S1x128_30_384 slices_S128x128_o64_0_S32x128) ?_
  refine View.allAt_cons_unit _ _ _ _ _ (T 7 1 3 (by decide) (by decide) (by decide) inb_S512x2048_S512x128_0_896 inb_S64x512_S1x128_29_384 inb_S64x512_S1x128_29_384 slices_S128x128_o32_0_S32x128) ?_
  refine View.allAt_cons_unit _ _ _ _ _ (T 7 0 3 (by decide) (by decide) (by decide) inb_S512x2048_S512x128_0_896 inb_S64x512_S1x128_28_384 inb_S64x512_S1x128_28_384 slices_S128x128_o0_0_S32x128) ?_
  refine View.allAt_cons_unit _ _ _ _ _ (T 7 3 2 (by decide) (by decide) (by decide) inb_S512x2048_S512x128_0_896 inb_S64x512_S1x128_31_256 inb_S64x512_S1x128_31_256 slices_S128x128_o96_0_S32x128) ?_
  refine View.allAt_cons_unit _ _ _ _ _ (T 7 2 2 (by decide) (by decide) (by decide) inb_S512x2048_S512x128_0_896 inb_S64x512_S1x128_30_256 inb_S64x512_S1x128_30_256 slices_S128x128_o64_0_S32x128) ?_
  refine View.allAt_cons_unit _ _ _ _ _ (T 7 1 2 (by decide) (by decide) (by decide) inb_S512x2048_S512x128_0_896 inb_S64x512_S1x128_29_256 inb_S64x512_S1x128_29_256 slices_S128x128_o32_0_S32x128) ?_
  refine View.allAt_cons_unit _ _ _ _ _ (T 7 0 2 (by decide) (by decide) (by decide) inb_S512x2048_S512x128_0_896 inb_S64x512_S1x128_28_256 inb_S64x512_S1x128_28_256 slices_S128x128_o0_0_S32x128) ?_
  refine View.allAt_cons_unit _ _ _ _ _ (T 7 3 1 (by decide) (by decide) (by decide) inb_S512x2048_S512x128_0_896 inb_S64x512_S1x128_31_128 inb_S64x512_S1x128_31_128 slices_S128x128_o96_0_S32x128) ?_
  refine View.allAt_cons_unit _ _ _ _ _ (T 7 2 1 (by decide) (by decide) (by decide) inb_S512x2048_S512x128_0_896 inb_S64x512_S1x128_30_128 inb_S64x512_S1x128_30_128 slices_S128x128_o64_0_S32x128) ?_
  refine View.allAt_cons_unit _ _ _ _ _ (T 7 1 1 (by decide) (by decide) (by decide) inb_S512x2048_S512x128_0_896 inb_S64x512_S1x128_29_128 inb_S64x512_S1x128_29_128 slices_S128x128_o32_0_S32x128) ?_
  refine View.allAt_cons_unit _ _ _ _ _ (T 7 0 1 (by decide) (by decide) (by decide) inb_S512x2048_S512x128_0_896 inb_S64x512_S1x128_28_128 inb_S64x512_S1x128_28_128 slices_S128x128_o0_0_S32x128) ?_
  refine View.allAt_cons_unit _ _ _ _ _ (T 7 3 0 (by decide) (by decide) (by decide) inb_S512x2048_S512x128_0_896 inb_S64x512_S1x128_31_0 inb_S64x512_S1x128_31_0 slices_S128x128_o96_0_S32x128) ?_
  refine View.allAt_cons_unit _ _ _ _ _ (T 7 2 0 (by decide) (by decide) (by decide) inb_S512x2048_S512x128_0_896 inb_S64x512_S1x128_30_0 inb_S64x512_S1x128_30_0 slices_S128x128_o64_0_S32x128) ?_
  refine View.allAt_cons_unit _ _ _ _ _ (T 7 1 0 (by decide) (by decide) (by decide) inb_S512x2048_S512x128_0_896 inb_S64x512_S1x128_29_0 inb_S64x512_S1x128_29_0 slices_S128x128_o32_0_S32x128) ?_
  refine View.allAt_cons_unit _ _ _ _ _ (T 7 0 0 (by decide) (by decide) (by decide) inb_S512x2048_S512x128_0_896 inb_S64x512_S1x128_28_0 inb_S64x512_S1x128_28_0 slices_S128x128_o0_0_S32x128) ?_
  refine View.allAt_cons_unit _ _ _ _ _ (T 6 3 3 (by decide) (by decide) (by decide) inb_S512x2048_S512x128_0_768 inb_S64x512_S1x128_27_384 inb_S64x512_S1x128_27_384 slices_S128x128_o96_0_S32x128) ?_
  refine View.allAt_cons_unit _ _ _ _ _ (T 6 2 3 (by decide) (by decide) (by decide) inb_S512x2048_S512x128_0_768 inb_S64x512_S1x128_26_384 inb_S64x512_S1x128_26_384 slices_S128x128_o64_0_S32x128) ?_
  refine View.allAt_cons_unit _ _ _ _ _ (T 6 1 3 (by decide) (by decide) (by decide) inb_S512x2048_S512x128_0_768 inb_S64x512_S1x128_25_384 inb_S64x512_S1x128_25_384 slices_S128x128_o32_0_S32x128) ?_
  refine View.allAt_cons_unit _ _ _ _ _ (T 6 0 3 (by decide) (by decide) (by decide) inb_S512x2048_S512x128_0_768 inb_S64x512_S1x128_24_384 inb_S64x512_S1x128_24_384 slices_S128x128_o0_0_S32x128) ?_
  refine View.allAt_cons_unit _ _ _ _ _ (T 6 3 2 (by decide) (by decide) (by decide) inb_S512x2048_S512x128_0_768 inb_S64x512_S1x128_27_256 inb_S64x512_S1x128_27_256 slices_S128x128_o96_0_S32x128) ?_
  refine View.allAt_cons_unit _ _ _ _ _ (T 6 2 2 (by decide) (by decide) (by decide) inb_S512x2048_S512x128_0_768 inb_S64x512_S1x128_26_256 inb_S64x512_S1x128_26_256 slices_S128x128_o64_0_S32x128) ?_
  refine View.allAt_cons_unit _ _ _ _ _ (T 6 1 2 (by decide) (by decide) (by decide) inb_S512x2048_S512x128_0_768 inb_S64x512_S1x128_25_256 inb_S64x512_S1x128_25_256 slices_S128x128_o32_0_S32x128) ?_
  refine View.allAt_cons_unit _ _ _ _ _ (T 6 0 2 (by decide) (by decide) (by decide) inb_S512x2048_S512x128_0_768 inb_S64x512_S1x128_24_256 inb_S64x512_S1x128_24_256 slices_S128x128_o0_0_S32x128) ?_
  refine View.allAt_cons_unit _ _ _ _ _ (T 6 3 1 (by decide) (by decide) (by decide) inb_S512x2048_S512x128_0_768 inb_S64x512_S1x128_27_128 inb_S64x512_S1x128_27_128 slices_S128x128_o96_0_S32x128) ?_
  refine View.allAt_cons_unit _ _ _ _ _ (T 6 2 1 (by decide) (by decide) (by decide) inb_S512x2048_S512x128_0_768 inb_S64x512_S1x128_26_128 inb_S64x512_S1x128_26_128 slices_S128x128_o64_0_S32x128) ?_
  refine View.allAt_cons_unit _ _ _ _ _ (T 6 1 1 (by decide) (by decide) (by decide) inb_S512x2048_S512x128_0_768 inb_S64x512_S1x128_25_128 inb_S64x512_S1x128_25_128 slices_S128x128_o32_0_S32x128) ?_
  refine View.allAt_cons_unit _ _ _ _ _ (T 6 0 1 (by decide) (by decide) (by decide) inb_S512x2048_S512x128_0_768 inb_S64x512_S1x128_24_128 inb_S64x512_S1x128_24_128 slices_S128x128_o0_0_S32x128) ?_
  refine View.allAt_cons_unit _ _ _ _ _ (T 6 3 0 (by decide) (by decide) (by decide) inb_S512x2048_S512x128_0_768 inb_S64x512_S1x128_27_0 inb_S64x512_S1x128_27_0 slices_S128x128_o96_0_S32x128) ?_
  refine View.allAt_cons_unit _ _ _ _ _ (T 6 2 0 (by decide) (by decide) (by decide) inb_S512x2048_S512x128_0_768 inb_S64x512_S1x128_26_0 inb_S64x512_S1x128_26_0 slices_S128x128_o64_0_S32x128) ?_
  refine View.allAt_cons_unit _ _ _ _ _ (T 6 1 0 (by decide) (by decide) (by decide) inb_S512x2048_S512x128_0_768 inb_S64x512_S1x128_25_0 inb_S64x512_S1x128_25_0 slices_S128x128_o32_0_S32x128) ?_
  refine View.allAt_cons_unit _ _ _ _ _ (T 6 0 0 (by decide) (by decide) (by decide) inb_S512x2048_S512x128_0_768 inb_S64x512_S1x128_24_0 inb_S64x512_S1x128_24_0 slices_S128x128_o0_0_S32x128) ?_
  refine View.allAt_cons_unit _ _ _ _ _ (T 5 3 3 (by decide) (by decide) (by decide) inb_S512x2048_S512x128_0_640 inb_S64x512_S1x128_23_384 inb_S64x512_S1x128_23_384 slices_S128x128_o96_0_S32x128) ?_
  refine View.allAt_cons_unit _ _ _ _ _ (T 5 2 3 (by decide) (by decide) (by decide) inb_S512x2048_S512x128_0_640 inb_S64x512_S1x128_22_384 inb_S64x512_S1x128_22_384 slices_S128x128_o64_0_S32x128) ?_
  refine View.allAt_cons_unit _ _ _ _ _ (T 5 1 3 (by decide) (by decide) (by decide) inb_S512x2048_S512x128_0_640 inb_S64x512_S1x128_21_384 inb_S64x512_S1x128_21_384 slices_S128x128_o32_0_S32x128) ?_
  refine View.allAt_cons_unit _ _ _ _ _ (T 5 0 3 (by decide) (by decide) (by decide) inb_S512x2048_S512x128_0_640 inb_S64x512_S1x128_20_384 inb_S64x512_S1x128_20_384 slices_S128x128_o0_0_S32x128) ?_
  refine View.allAt_cons_unit _ _ _ _ _ (T 5 3 2 (by decide) (by decide) (by decide) inb_S512x2048_S512x128_0_640 inb_S64x512_S1x128_23_256 inb_S64x512_S1x128_23_256 slices_S128x128_o96_0_S32x128) ?_
  refine View.allAt_cons_unit _ _ _ _ _ (T 5 2 2 (by decide) (by decide) (by decide) inb_S512x2048_S512x128_0_640 inb_S64x512_S1x128_22_256 inb_S64x512_S1x128_22_256 slices_S128x128_o64_0_S32x128) ?_
  refine View.allAt_cons_unit _ _ _ _ _ (T 5 1 2 (by decide) (by decide) (by decide) inb_S512x2048_S512x128_0_640 inb_S64x512_S1x128_21_256 inb_S64x512_S1x128_21_256 slices_S128x128_o32_0_S32x128) ?_
  refine View.allAt_cons_unit _ _ _ _ _ (T 5 0 2 (by decide) (by decide) (by decide) inb_S512x2048_S512x128_0_640 inb_S64x512_S1x128_20_256 inb_S64x512_S1x128_20_256 slices_S128x128_o0_0_S32x128) ?_
  refine View.allAt_cons_unit _ _ _ _ _ (T 5 3 1 (by decide) (by decide) (by decide) inb_S512x2048_S512x128_0_640 inb_S64x512_S1x128_23_128 inb_S64x512_S1x128_23_128 slices_S128x128_o96_0_S32x128) ?_
  refine View.allAt_cons_unit _ _ _ _ _ (T 5 2 1 (by decide) (by decide) (by decide) inb_S512x2048_S512x128_0_640 inb_S64x512_S1x128_22_128 inb_S64x512_S1x128_22_128 slices_S128x128_o64_0_S32x128) ?_
  refine View.allAt_cons_unit _ _ _ _ _ (T 5 1 1 (by decide) (by decide) (by decide) inb_S512x2048_S512x128_0_640 inb_S64x512_S1x128_21_128 inb_S64x512_S1x128_21_128 slices_S128x128_o32_0_S32x128) ?_
  refine View.allAt_cons_unit _ _ _ _ _ (T 5 0 1 (by decide) (by decide) (by decide) inb_S512x2048_S512x128_0_640 inb_S64x512_S1x128_20_128 inb_S64x512_S1x128_20_128 slices_S128x128_o0_0_S32x128) ?_
  refine View.allAt_cons_unit _ _ _ _ _ (T 5 3 0 (by decide) (by decide) (by decide) inb_S512x2048_S512x128_0_640 inb_S64x512_S1x128_23_0 inb_S64x512_S1x128_23_0 slices_S128x128_o96_0_S32x128) ?_
  refine View.allAt_cons_unit _ _ _ _ _ (T 5 2 0 (by decide) (by decide) (by decide) inb_S512x2048_S512x128_0_640 inb_S64x512_S1x128_22_0 inb_S64x512_S1x128_22_0 slices_S128x128_o64_0_S32x128) ?_
  refine View.allAt_cons_unit _ _ _ _ _ (T 5 1 0 (by decide) (by decide) (by decide) inb_S512x2048_S512x128_0_640 inb_S64x512_S1x128_21_0 inb_S64x512_S1x128_21_0 slices_S128x128_o32_0_S32x128) ?_
  refine View.allAt_cons_unit _ _ _ _ _ (T 5 0 0 (by decide) (by decide) (by decide) inb_S512x2048_S512x128_0_640 inb_S64x512_S1x128_20_0 inb_S64x512_S1x128_20_0 slices_S128x128_o0_0_S32x128) ?_
  refine View.allAt_cons_unit _ _ _ _ _ (T 4 3 3 (by decide) (by decide) (by decide) inb_S512x2048_S512x128_0_512 inb_S64x512_S1x128_19_384 inb_S64x512_S1x128_19_384 slices_S128x128_o96_0_S32x128) ?_
  refine View.allAt_cons_unit _ _ _ _ _ (T 4 2 3 (by decide) (by decide) (by decide) inb_S512x2048_S512x128_0_512 inb_S64x512_S1x128_18_384 inb_S64x512_S1x128_18_384 slices_S128x128_o64_0_S32x128) ?_
  refine View.allAt_cons_unit _ _ _ _ _ (T 4 1 3 (by decide) (by decide) (by decide) inb_S512x2048_S512x128_0_512 inb_S64x512_S1x128_17_384 inb_S64x512_S1x128_17_384 slices_S128x128_o32_0_S32x128) ?_
  refine View.allAt_cons_unit _ _ _ _ _ (T 4 0 3 (by decide) (by decide) (by decide) inb_S512x2048_S512x128_0_512 inb_S64x512_S1x128_16_384 inb_S64x512_S1x128_16_384 slices_S128x128_o0_0_S32x128) ?_
  refine View.allAt_cons_unit _ _ _ _ _ (T 4 3 2 (by decide) (by decide) (by decide) inb_S512x2048_S512x128_0_512 inb_S64x512_S1x128_19_256 inb_S64x512_S1x128_19_256 slices_S128x128_o96_0_S32x128) ?_
  refine View.allAt_cons_unit _ _ _ _ _ (T 4 2 2 (by decide) (by decide) (by decide) inb_S512x2048_S512x128_0_512 inb_S64x512_S1x128_18_256 inb_S64x512_S1x128_18_256 slices_S128x128_o64_0_S32x128) ?_
  refine View.allAt_cons_unit _ _ _ _ _ (T 4 1 2 (by decide) (by decide) (by decide) inb_S512x2048_S512x128_0_512 inb_S64x512_S1x128_17_256 inb_S64x512_S1x128_17_256 slices_S128x128_o32_0_S32x128) ?_
  refine View.allAt_cons_unit _ _ _ _ _ (T 4 0 2 (by decide) (by decide) (by decide) inb_S512x2048_S512x128_0_512 inb_S64x512_S1x128_16_256 inb_S64x512_S1x128_16_256 slices_S128x128_o0_0_S32x128) ?_
  refine View.allAt_cons_unit _ _ _ _ _ (T 4 3 1 (by decide) (by decide) (by decide) inb_S512x2048_S512x128_0_512 inb_S64x512_S1x128_19_128 inb_S64x512_S1x128_19_128 slices_S128x128_o96_0_S32x128) ?_
  refine View.allAt_cons_unit _ _ _ _ _ (T 4 2 1 (by decide) (by decide) (by decide) inb_S512x2048_S512x128_0_512 inb_S64x512_S1x128_18_128 inb_S64x512_S1x128_18_128 slices_S128x128_o64_0_S32x128) ?_
  refine View.allAt_cons_unit _ _ _ _ _ (T 4 1 1 (by decide) (by decide) (by decide) inb_S512x2048_S512x128_0_512 inb_S64x512_S1x128_17_128 inb_S64x512_S1x128_17_128 slices_S128x128_o32_0_S32x128) ?_
  refine View.allAt_cons_unit _ _ _ _ _ (T 4 0 1 (by decide) (by decide) (by decide) inb_S512x2048_S512x128_0_512 inb_S64x512_S1x128_16_128 inb_S64x512_S1x128_16_128 slices_S128x128_o0_0_S32x128) ?_
  refine View.allAt_cons_unit _ _ _ _ _ (T 4 3 0 (by decide) (by decide) (by decide) inb_S512x2048_S512x128_0_512 inb_S64x512_S1x128_19_0 inb_S64x512_S1x128_19_0 slices_S128x128_o96_0_S32x128) ?_
  refine View.allAt_cons_unit _ _ _ _ _ (T 4 2 0 (by decide) (by decide) (by decide) inb_S512x2048_S512x128_0_512 inb_S64x512_S1x128_18_0 inb_S64x512_S1x128_18_0 slices_S128x128_o64_0_S32x128) ?_
  refine View.allAt_cons_unit _ _ _ _ _ (T 4 1 0 (by decide) (by decide) (by decide) inb_S512x2048_S512x128_0_512 inb_S64x512_S1x128_17_0 inb_S64x512_S1x128_17_0 slices_S128x128_o32_0_S32x128) ?_
  refine View.allAt_cons_unit _ _ _ _ _ (T 4 0 0 (by decide) (by decide) (by decide) inb_S512x2048_S512x128_0_512 inb_S64x512_S1x128_16_0 inb_S64x512_S1x128_16_0 slices_S128x128_o0_0_S32x128) ?_
  refine View.allAt_cons_unit _ _ _ _ _ (T 3 3 3 (by decide) (by decide) (by decide) inb_S512x2048_S512x128_0_384 inb_S64x512_S1x128_15_384 inb_S64x512_S1x128_15_384 slices_S128x128_o96_0_S32x128) ?_
  refine View.allAt_cons_unit _ _ _ _ _ (T 3 2 3 (by decide) (by decide) (by decide) inb_S512x2048_S512x128_0_384 inb_S64x512_S1x128_14_384 inb_S64x512_S1x128_14_384 slices_S128x128_o64_0_S32x128) ?_
  refine View.allAt_cons_unit _ _ _ _ _ (T 3 1 3 (by decide) (by decide) (by decide) inb_S512x2048_S512x128_0_384 inb_S64x512_S1x128_13_384 inb_S64x512_S1x128_13_384 slices_S128x128_o32_0_S32x128) ?_
  refine View.allAt_cons_unit _ _ _ _ _ (T 3 0 3 (by decide) (by decide) (by decide) inb_S512x2048_S512x128_0_384 inb_S64x512_S1x128_12_384 inb_S64x512_S1x128_12_384 slices_S128x128_o0_0_S32x128) ?_
  refine View.allAt_cons_unit _ _ _ _ _ (T 3 3 2 (by decide) (by decide) (by decide) inb_S512x2048_S512x128_0_384 inb_S64x512_S1x128_15_256 inb_S64x512_S1x128_15_256 slices_S128x128_o96_0_S32x128) ?_
  refine View.allAt_cons_unit _ _ _ _ _ (T 3 2 2 (by decide) (by decide) (by decide) inb_S512x2048_S512x128_0_384 inb_S64x512_S1x128_14_256 inb_S64x512_S1x128_14_256 slices_S128x128_o64_0_S32x128) ?_
  refine View.allAt_cons_unit _ _ _ _ _ (T 3 1 2 (by decide) (by decide) (by decide) inb_S512x2048_S512x128_0_384 inb_S64x512_S1x128_13_256 inb_S64x512_S1x128_13_256 slices_S128x128_o32_0_S32x128) ?_
  refine View.allAt_cons_unit _ _ _ _ _ (T 3 0 2 (by decide) (by decide) (by decide) inb_S512x2048_S512x128_0_384 inb_S64x512_S1x128_12_256 inb_S64x512_S1x128_12_256 slices_S128x128_o0_0_S32x128) ?_
  refine View.allAt_cons_unit _ _ _ _ _ (T 3 3 1 (by decide) (by decide) (by decide) inb_S512x2048_S512x128_0_384 inb_S64x512_S1x128_15_128 inb_S64x512_S1x128_15_128 slices_S128x128_o96_0_S32x128) ?_
  refine View.allAt_cons_unit _ _ _ _ _ (T 3 2 1 (by decide) (by decide) (by decide) inb_S512x2048_S512x128_0_384 inb_S64x512_S1x128_14_128 inb_S64x512_S1x128_14_128 slices_S128x128_o64_0_S32x128) ?_
  refine View.allAt_cons_unit _ _ _ _ _ (T 3 1 1 (by decide) (by decide) (by decide) inb_S512x2048_S512x128_0_384 inb_S64x512_S1x128_13_128 inb_S64x512_S1x128_13_128 slices_S128x128_o32_0_S32x128) ?_
  refine View.allAt_cons_unit _ _ _ _ _ (T 3 0 1 (by decide) (by decide) (by decide) inb_S512x2048_S512x128_0_384 inb_S64x512_S1x128_12_128 inb_S64x512_S1x128_12_128 slices_S128x128_o0_0_S32x128) ?_
  refine View.allAt_cons_unit _ _ _ _ _ (T 3 3 0 (by decide) (by decide) (by decide) inb_S512x2048_S512x128_0_384 inb_S64x512_S1x128_15_0 inb_S64x512_S1x128_15_0 slices_S128x128_o96_0_S32x128) ?_
  refine View.allAt_cons_unit _ _ _ _ _ (T 3 2 0 (by decide) (by decide) (by decide) inb_S512x2048_S512x128_0_384 inb_S64x512_S1x128_14_0 inb_S64x512_S1x128_14_0 slices_S128x128_o64_0_S32x128) ?_
  refine View.allAt_cons_unit _ _ _ _ _ (T 3 1 0 (by decide) (by decide) (by decide) inb_S512x2048_S512x128_0_384 inb_S64x512_S1x128_13_0 inb_S64x512_S1x128_13_0 slices_S128x128_o32_0_S32x128) ?_
  refine View.allAt_cons_unit _ _ _ _ _ (T 3 0 0 (by decide) (by decide) (by decide) inb_S512x2048_S512x128_0_384 inb_S64x512_S1x128_12_0 inb_S64x512_S1x128_12_0 slices_S128x128_o0_0_S32x128) ?_
  refine View.allAt_cons_unit _ _ _ _ _ (T 2 3 3 (by decide) (by decide) (by decide) inb_S512x2048_S512x128_0_256 inb_S64x512_S1x128_11_384 inb_S64x512_S1x128_11_384 slices_S128x128_o96_0_S32x128) ?_
  refine View.allAt_cons_unit _ _ _ _ _ (T 2 2 3 (by decide) (by decide) (by decide) inb_S512x2048_S512x128_0_256 inb_S64x512_S1x128_10_384 inb_S64x512_S1x128_10_384 slices_S128x128_o64_0_S32x128) ?_
  refine View.allAt_cons_unit _ _ _ _ _ (T 2 1 3 (by decide) (by decide) (by decide) inb_S512x2048_S512x128_0_256 inb_S64x512_S1x128_9_384 inb_S64x512_S1x128_9_384 slices_S128x128_o32_0_S32x128) ?_
  refine View.allAt_cons_unit _ _ _ _ _ (T 2 0 3 (by decide) (by decide) (by decide) inb_S512x2048_S512x128_0_256 inb_S64x512_S1x128_8_384 inb_S64x512_S1x128_8_384 slices_S128x128_o0_0_S32x128) ?_
  refine View.allAt_cons_unit _ _ _ _ _ (T 2 3 2 (by decide) (by decide) (by decide) inb_S512x2048_S512x128_0_256 inb_S64x512_S1x128_11_256 inb_S64x512_S1x128_11_256 slices_S128x128_o96_0_S32x128) ?_
  refine View.allAt_cons_unit _ _ _ _ _ (T 2 2 2 (by decide) (by decide) (by decide) inb_S512x2048_S512x128_0_256 inb_S64x512_S1x128_10_256 inb_S64x512_S1x128_10_256 slices_S128x128_o64_0_S32x128) ?_
  refine View.allAt_cons_unit _ _ _ _ _ (T 2 1 2 (by decide) (by decide) (by decide) inb_S512x2048_S512x128_0_256 inb_S64x512_S1x128_9_256 inb_S64x512_S1x128_9_256 slices_S128x128_o32_0_S32x128) ?_
  refine View.allAt_cons_unit _ _ _ _ _ (T 2 0 2 (by decide) (by decide) (by decide) inb_S512x2048_S512x128_0_256 inb_S64x512_S1x128_8_256 inb_S64x512_S1x128_8_256 slices_S128x128_o0_0_S32x128) ?_
  refine View.allAt_cons_unit _ _ _ _ _ (T 2 3 1 (by decide) (by decide) (by decide) inb_S512x2048_S512x128_0_256 inb_S64x512_S1x128_11_128 inb_S64x512_S1x128_11_128 slices_S128x128_o96_0_S32x128) ?_
  refine View.allAt_cons_unit _ _ _ _ _ (T 2 2 1 (by decide) (by decide) (by decide) inb_S512x2048_S512x128_0_256 inb_S64x512_S1x128_10_128 inb_S64x512_S1x128_10_128 slices_S128x128_o64_0_S32x128) ?_
  refine View.allAt_cons_unit _ _ _ _ _ (T 2 1 1 (by decide) (by decide) (by decide) inb_S512x2048_S512x128_0_256 inb_S64x512_S1x128_9_128 inb_S64x512_S1x128_9_128 slices_S128x128_o32_0_S32x128) ?_
  refine View.allAt_cons_unit _ _ _ _ _ (T 2 0 1 (by decide) (by decide) (by decide) inb_S512x2048_S512x128_0_256 inb_S64x512_S1x128_8_128 inb_S64x512_S1x128_8_128 slices_S128x128_o0_0_S32x128) ?_
  refine View.allAt_cons_unit _ _ _ _ _ (T 2 3 0 (by decide) (by decide) (by decide) inb_S512x2048_S512x128_0_256 inb_S64x512_S1x128_11_0 inb_S64x512_S1x128_11_0 slices_S128x128_o96_0_S32x128) ?_
  refine View.allAt_cons_unit _ _ _ _ _ (T 2 2 0 (by decide) (by decide) (by decide) inb_S512x2048_S512x128_0_256 inb_S64x512_S1x128_10_0 inb_S64x512_S1x128_10_0 slices_S128x128_o64_0_S32x128) ?_
  refine View.allAt_cons_unit _ _ _ _ _ (T 2 1 0 (by decide) (by decide) (by decide) inb_S512x2048_S512x128_0_256 inb_S64x512_S1x128_9_0 inb_S64x512_S1x128_9_0 slices_S128x128_o32_0_S32x128) ?_
  refine View.allAt_cons_unit _ _ _ _ _ (T 2 0 0 (by decide) (by decide) (by decide) inb_S512x2048_S512x128_0_256 inb_S64x512_S1x128_8_0 inb_S64x512_S1x128_8_0 slices_S128x128_o0_0_S32x128) ?_
  refine View.allAt_cons_unit _ _ _ _ _ (T 1 3 3 (by decide) (by decide) (by decide) inb_S512x2048_S512x128_0_128 inb_S64x512_S1x128_7_384 inb_S64x512_S1x128_7_384 slices_S128x128_o96_0_S32x128) ?_
  refine View.allAt_cons_unit _ _ _ _ _ (T 1 2 3 (by decide) (by decide) (by decide) inb_S512x2048_S512x128_0_128 inb_S64x512_S1x128_6_384 inb_S64x512_S1x128_6_384 slices_S128x128_o64_0_S32x128) ?_
  refine View.allAt_cons_unit _ _ _ _ _ (T 1 1 3 (by decide) (by decide) (by decide) inb_S512x2048_S512x128_0_128 inb_S64x512_S1x128_5_384 inb_S64x512_S1x128_5_384 slices_S128x128_o32_0_S32x128) ?_
  refine View.allAt_cons_unit _ _ _ _ _ (T 1 0 3 (by decide) (by decide) (by decide) inb_S512x2048_S512x128_0_128 inb_S64x512_S1x128_4_384 inb_S64x512_S1x128_4_384 slices_S128x128_o0_0_S32x128) ?_
  refine View.allAt_cons_unit _ _ _ _ _ (T 1 3 2 (by decide) (by decide) (by decide) inb_S512x2048_S512x128_0_128 inb_S64x512_S1x128_7_256 inb_S64x512_S1x128_7_256 slices_S128x128_o96_0_S32x128) ?_
  refine View.allAt_cons_unit _ _ _ _ _ (T 1 2 2 (by decide) (by decide) (by decide) inb_S512x2048_S512x128_0_128 inb_S64x512_S1x128_6_256 inb_S64x512_S1x128_6_256 slices_S128x128_o64_0_S32x128) ?_
  refine View.allAt_cons_unit _ _ _ _ _ (T 1 1 2 (by decide) (by decide) (by decide) inb_S512x2048_S512x128_0_128 inb_S64x512_S1x128_5_256 inb_S64x512_S1x128_5_256 slices_S128x128_o32_0_S32x128) ?_
  refine View.allAt_cons_unit _ _ _ _ _ (T 1 0 2 (by decide) (by decide) (by decide) inb_S512x2048_S512x128_0_128 inb_S64x512_S1x128_4_256 inb_S64x512_S1x128_4_256 slices_S128x128_o0_0_S32x128) ?_
  refine View.allAt_cons_unit _ _ _ _ _ (T 1 3 1 (by decide) (by decide) (by decide) inb_S512x2048_S512x128_0_128 inb_S64x512_S1x128_7_128 inb_S64x512_S1x128_7_128 slices_S128x128_o96_0_S32x128) ?_
  refine View.allAt_cons_unit _ _ _ _ _ (T 1 2 1 (by decide) (by decide) (by decide) inb_S512x2048_S512x128_0_128 inb_S64x512_S1x128_6_128 inb_S64x512_S1x128_6_128 slices_S128x128_o64_0_S32x128) ?_
  refine View.allAt_cons_unit _ _ _ _ _ (T 1 1 1 (by decide) (by decide) (by decide) inb_S512x2048_S512x128_0_128 inb_S64x512_S1x128_5_128 inb_S64x512_S1x128_5_128 slices_S128x128_o32_0_S32x128) ?_
  refine View.allAt_cons_unit _ _ _ _ _ (T 1 0 1 (by decide) (by decide) (by decide) inb_S512x2048_S512x128_0_128 inb_S64x512_S1x128_4_128 inb_S64x512_S1x128_4_128 slices_S128x128_o0_0_S32x128) ?_
  refine View.allAt_cons_unit _ _ _ _ _ (T 1 3 0 (by decide) (by decide) (by decide) inb_S512x2048_S512x128_0_128 inb_S64x512_S1x128_7_0 inb_S64x512_S1x128_7_0 slices_S128x128_o96_0_S32x128) ?_
  refine View.allAt_cons_unit _ _ _ _ _ (T 1 2 0 (by decide) (by decide) (by decide) inb_S512x2048_S512x128_0_128 inb_S64x512_S1x128_6_0 inb_S64x512_S1x128_6_0 slices_S128x128_o64_0_S32x128) ?_
  refine View.allAt_cons_unit _ _ _ _ _ (T 1 1 0 (by decide) (by decide) (by decide) inb_S512x2048_S512x128_0_128 inb_S64x512_S1x128_5_0 inb_S64x512_S1x128_5_0 slices_S128x128_o32_0_S32x128) ?_
  refine View.allAt_cons_unit _ _ _ _ _ (T 1 0 0 (by decide) (by decide) (by decide) inb_S512x2048_S512x128_0_128 inb_S64x512_S1x128_4_0 inb_S64x512_S1x128_4_0 slices_S128x128_o0_0_S32x128) ?_
  refine View.allAt_cons_unit _ _ _ _ _ (T 0 3 3 (by decide) (by decide) (by decide) inb_S512x2048_S512x128_0_0 inb_S64x512_S1x128_3_384 inb_S64x512_S1x128_3_384 slices_S128x128_o96_0_S32x128) ?_
  refine View.allAt_cons_unit _ _ _ _ _ (T 0 2 3 (by decide) (by decide) (by decide) inb_S512x2048_S512x128_0_0 inb_S64x512_S1x128_2_384 inb_S64x512_S1x128_2_384 slices_S128x128_o64_0_S32x128) ?_
  refine View.allAt_cons_unit _ _ _ _ _ (T 0 1 3 (by decide) (by decide) (by decide) inb_S512x2048_S512x128_0_0 inb_S64x512_S1x128_1_384 inb_S64x512_S1x128_1_384 slices_S128x128_o32_0_S32x128) ?_
  refine View.allAt_cons_unit _ _ _ _ _ (T 0 0 3 (by decide) (by decide) (by decide) inb_S512x2048_S512x128_0_0 inb_S64x512_S1x128_0_384 inb_S64x512_S1x128_0_384 slices_S128x128_o0_0_S32x128) ?_
  refine View.allAt_cons_unit _ _ _ _ _ (T 0 3 2 (by decide) (by decide) (by decide) inb_S512x2048_S512x128_0_0 inb_S64x512_S1x128_3_256 inb_S64x512_S1x128_3_256 slices_S128x128_o96_0_S32x128) ?_
  refine View.allAt_cons_unit _ _ _ _ _ (T 0 2 2 (by decide) (by decide) (by decide) inb_S512x2048_S512x128_0_0 inb_S64x512_S1x128_2_256 inb_S64x512_S1x128_2_256 slices_S128x128_o64_0_S32x128) ?_
  refine View.allAt_cons_unit _ _ _ _ _ (T 0 1 2 (by decide) (by decide) (by decide) inb_S512x2048_S512x128_0_0 inb_S64x512_S1x128_1_256 inb_S64x512_S1x128_1_256 slices_S128x128_o32_0_S32x128) ?_
  refine View.allAt_cons_unit _ _ _ _ _ (T 0 0 2 (by decide) (by decide) (by decide) inb_S512x2048_S512x128_0_0 inb_S64x512_S1x128_0_256 inb_S64x512_S1x128_0_256 slices_S128x128_o0_0_S32x128) ?_
  refine View.allAt_cons_unit _ _ _ _ _ (T 0 3 1 (by decide) (by decide) (by decide) inb_S512x2048_S512x128_0_0 inb_S64x512_S1x128_3_128 inb_S64x512_S1x128_3_128 slices_S128x128_o96_0_S32x128) ?_
  refine View.allAt_cons_unit _ _ _ _ _ (T 0 2 1 (by decide) (by decide) (by decide) inb_S512x2048_S512x128_0_0 inb_S64x512_S1x128_2_128 inb_S64x512_S1x128_2_128 slices_S128x128_o64_0_S32x128) ?_
  refine View.allAt_cons_unit _ _ _ _ _ (T 0 1 1 (by decide) (by decide) (by decide) inb_S512x2048_S512x128_0_0 inb_S64x512_S1x128_1_128 inb_S64x512_S1x128_1_128 slices_S128x128_o32_0_S32x128) ?_
  refine View.allAt_cons_unit _ _ _ _ _ (T 0 0 1 (by decide) (by decide) (by decide) inb_S512x2048_S512x128_0_0 inb_S64x512_S1x128_0_128 inb_S64x512_S1x128_0_128 slices_S128x128_o0_0_S32x128) ?_
  refine View.allAt_cons_unit _ _ _ _ _ (T 0 3 0 (by decide) (by decide) (by decide) inb_S512x2048_S512x128_0_0 inb_S64x512_S1x128_3_0 inb_S64x512_S1x128_3_0 slices_S128x128_o96_0_S32x128) ?_
  refine View.allAt_cons_unit _ _ _ _ _ (T 0 2 0 (by decide) (by decide) (by decide) inb_S512x2048_S512x128_0_0 inb_S64x512_S1x128_2_0 inb_S64x512_S1x128_2_0 slices_S128x128_o64_0_S32x128) ?_
  refine View.allAt_cons_unit _ _ _ _ _ (T 0 1 0 (by decide) (by decide) (by decide) inb_S512x2048_S512x128_0_0 inb_S64x512_S1x128_1_0 inb_S64x512_S1x128_1_0 slices_S128x128_o32_0_S32x128) ?_
  refine View.allAt_cons_unit _ _ _ _ _ (T 0 0 0 (by decide) (by decide) (by decide) inb_S512x2048_S512x128_0_0 inb_S64x512_S1x128_0_0 inb_S64x512_S1x128_0_0 slices_S128x128_o0_0_S32x128) ?_
  exact View.allAt_nil _ _

end Cert.W4A8

end
-- ==== Proof.OutTile.lean ====
/- One stored tile of a visit's output block: the product of the activations with the weight scratch, times the rows'
   scales, times the columns' scales. -/
module

public import proofs.«01_k».proof.Proof.Weights
public import Idealize.ShloMosaic.Lib.Pointwise.Contract
public import Idealize.ShloMosaic.Lib.Pointwise.ShapeOps

@[expose] public section

set_option maxRecDepth 16384

noncomputable section

namespace Cert.W4A8

open Cert.KernelIdeal Cert.KernelIdeal.Gen Idealize.ShloMosaic Idealize.ShloMosaic.TcCoe Idealize.SL.Sem

/-- The product at row `p`, column `q`: activations against weights, over the 4096 input channels. -/
def accAt (x0 : Vec Ideal S1024x4096 .i8) (W : S4096x512.Idx → EReal) (p : Fin 1024) (q : Fin 512) : EReal :=
  ∑ k : Fin 4096, (((x0 (ix2 p k)).toInt : ℝ) : EReal) * W (ix2 k q)

/-- The output block of the visit at `i`, at `y`. -/
def outAt (i : grid0.Coords) (x0 : Vec Ideal S1024x4096 .i8) (W : S4096x512.Idx → EReal) (x1 : Vec Ideal S48x128 .f32)
    (x5 : Vec Ideal S44x128 .f32) (y : S1024x512.Idx) : EReal :=
  accAt x0 W (y 0) (y 1)
    * x1 (ix2 ⟨8 * (i 1).val + (y 0).val / 128, by
        have h := (i 1).isLt; have h' := (y 0).isLt; change (i 1).val < 6 at h; change (y 0).val < 1024 at h'; omega⟩
      ⟨(y 0).val % 128, Nat.mod_lt _ (by decide)⟩)
    * x5 (ix2 ⟨4 * (i 0).val + (y 1).val / 128, by
        have h := (i 0).isLt; have h' := (y 1).isLt; change (i 0).val < 11 at h; change (y 1).val < 512 at h'; omega⟩
      ⟨(y 1).val % 128, Nat.mod_lt _ (by decide)⟩)

/-- The kernel's product is that sum. -/
theorem acc_apply (v3 : Vec Ideal S1024x4096 .i8) (v6 : Vec Ideal S4096x512 .bf16) (p : Fin 1024) (q : Fin 512) :
    k0_pay558 (F := Ideal) v3 v6 (ix2 p q) = accAt v3 v6 p q := by
  unfold k0_pay558 accAt
  pointwise!

/-- One 128 by 128 output tile as the kernel writes it. -/
def outVec (acc : FVec Ideal S1024x512 .f32) (off : Fin 2 → ℕ) (hs : S1024x512.Slices off S128x128)
    (xr wr : Vec Ideal S1x128 .f32) : FVec Ideal S128x128 .bf16 :=
  truncf .bf16 (mulf (mulf (extractStridedSlice S128x128 off acc hs)
    (transpose S128x128 [1, 0] (broadcastTo S128x128 (shapeCast S1x128 (shapeCast S1x128 xr shapeCasts_S1x128_S1x128)
      shapeCasts_S1x128_S1x128) broadcasts_S1x128_S128x128) transposes_S128x128_p1_0_S128x128))
    (broadcastTo S128x128 (shapeCast S1x128 wr shapeCasts_S1x128_S1x128) broadcasts_S1x128_S128x128)) bitsLt_bf16_f32

theorem outVec_apply (acc : FVec Ideal S1024x512 .f32) (o o' : ℕ) (ho : o + 128 ≤ 1024) (ho' : o' + 128 ≤ 512)
    (hs : S1024x512.Slices ![o, o'] S128x128) (xr wr : Vec Ideal S1x128 .f32) (p q : Fin 128) :
    outVec acc ![o, o'] hs xr wr (ix2 p q)
      = acc (ix2 ⟨o + p.val, by omega⟩ ⟨o' + q.val, by omega⟩) * xr (ix2 0 p) * wr (ix2 0 q) := by
  unfold outVec
  rw [shapeCast_id, shapeCast_id, shapeCast_id]
  have h : ∀ a b c : FVec Ideal S128x128 .f32, truncf .bf16 (mulf (mulf a b) c) bitsLt_bf16_f32 (ix2 p q)
      = a (ix2 p q) * b (ix2 p q) * c (ix2 p q) := fun a b c => rfl
  rw [h]
  have hsl : extractStridedSlice S128x128 ![o, o'] acc hs (ix2 p q) = acc (ix2 ⟨o + p.val, by omega⟩ ⟨o' + q.val, by omega⟩) := by
    show acc _ = acc _
    congr 1
    funext a
    apply Fin.ext
    fin_cases a <;> rfl
  rw [hsl]
  pointwise!

/-- A row of a rank-two buffer of 128 columns as loaded. -/
theorem readRow {R : ℕ} (arg : Memref sig .tc .vmem (⟨2, ![R, 128]⟩ : Shape) .f32) (harg : arg.IsWhole) (x : Vec Ideal (⟨2, ![R, 128]⟩ : Shape) .f32)
    (off : Fin 2 → ℕ) (r : ℕ) (hr : r < R) (hoff : off = ![r, 0]) (inb) (l : Fin 128) :
    View.readAt (Elt Ideal) arg.view (Rect.unit (s := (⟨2, ![R, 128]⟩ : Shape)) off S1x128.size inb).toLoadRect (harg.unread x) (ix2 0 l)
      = x (ix2 ⟨r, hr⟩ l) := by
  subst hoff
  rw [Memref.IsWhole.readAt_unread]
  congr 1
  funext a
  apply Fin.ext
  refine (Rect.idx_unit_val _ _ _ _ _).trans ?_
  fin_cases a
  · rfl
  · exact Nat.zero_add _

/-- TILE (r, b) of the output block. -/
theorem out_tile_ok (i : grid0.Coords) (arg3 : Memref sig .tc .vmem S48x128 .f32) (harg3 : arg3.IsWhole)
    (arg7 : Memref sig .tc .vmem S44x128 .f32) (harg7 : arg7.IsWhole)
    (x0 : Vec Ideal S1024x4096 .i8) (W : S4096x512.Idx → EReal) (x1 : Vec Ideal S48x128 .f32) (x5 : Vec Ideal S44x128 .f32)
    (acc : FVec Ideal S1024x512 .f32) (hacc : ∀ p q, acc (ix2 p q) = accAt x0 W p q) (y : S1024x512.Idx)
    (r b : ℕ) (hr : r < 8) (hb : b < 4) (inbx) (inbw) (hs : S1024x512.Slices ![128 * r, 128 * b] S128x128) :
    View.TileAt (Val := Elt Ideal) (S := S1024x512) (e := .bf16) y ![128 * r, 128 * b] S128x128.size
      (outVec acc ![128 * r, 128 * b] hs
        (View.readAt (Elt Ideal) arg3.view (Rect.unit (s := S48x128) (k0_off2 i (BitVec.ofNat 32 r)) S1x128.size inbx).toLoadRect (harg3.unread x1))
        (View.readAt (Elt Ideal) arg7.view (Rect.unit (s := S44x128) (k0_off1 i (BitVec.ofNat 32 b)) S1x128.size inbw).toLoadRect (harg7.unread x5)))
      (outAt i x0 W x1 x5 y) := by
  intro z hz
  obtain ⟨p, q, rfl⟩ : ∃ (p q : Fin 128), z = (ix2 p q : S128x128.Idx) := ⟨z 0, z 1, eq_ix2 z⟩
  have h0 : (y 0 : Nat) = 128 * r + p.val := hz 0
  have h1 : (y 1 : Nat) = 128 * b + q.val := hz 1
  have hp := p.isLt
  have hq := q.isLt
  have hi0 : (i 0).val < 11 := (i 0).isLt
  have hi1 : (i 1).val < 6 := (i 1).isLt
  rw [outVec_apply acc _ _ (by omega) (by omega), hacc,
    readRow (R := 48) arg3 harg3 x1 _ (8 * (i 1).val + r) (by omega) (k0_off2_eq i ⟨r, hr⟩) inbx,
    readRow (R := 44) arg7 harg7 x5 _ (4 * (i 0).val + b) (by omega) (k0_off1_eq i ⟨b, hb⟩) inbw]
  unfold outAt
  have e0 : (⟨128 * r + p.val, by omega⟩ : Fin 1024) = y 0 := Fin.ext h0.symm
  have e1 : (⟨128 * b + q.val, by omega⟩ : Fin 512) = y 1 := Fin.ext h1.symm
  have d0 : (y 0).val / 128 = r := by omega
  have m0 : (y 0).val % 128 = p.val := by omega
  have d1 : (y 1).val / 128 = b := by omega
  have m1 : (y 1).val % 128 = q.val := by omega
  simp only [e0, e1, d0, m0, d1, m1, Fin.eta]

end Cert.W4A8

end
-- ==== Proof.Visit.lean ====
/- One visit of the grid: what it leaves in the weight scratch (the first visit to a column block) and in its output
   block (every visit), as functions of the blocks it finds. -/
module

public import proofs.«01_k».proof.Proof.OutTile

@[expose] public section

set_option maxRecDepth 65536
set_option maxHeartbeats 8000000

noncomputable section

namespace Cert.W4A8

open Cert.KernelIdeal Cert.KernelIdeal.Gen Idealize.ShloMosaic Idealize.ShloMosaic.TcCoe Idealize.SL.Sem

/-- The whole activation block as loaded is the block. -/
theorem readActs (arg : Memref sig .tc .vmem S1024x4096 .i8) (harg : arg.IsWhole) (x : Vec Ideal S1024x4096 .i8) (inb) :
    View.readAt (Elt Ideal) arg.view (Rect.unit (s := S1024x4096) ![0, 0] S1024x4096.size inb).toLoadRect (harg.unread x) = x := by
  funext j
  rw [Memref.IsWhole.readAt_unread]
  congr 1
  funext a
  apply Fin.ext
  refine (Rect.idx_unit_val _ _ _ _ _).trans ?_
  fin_cases a <;> exact Nat.zero_add _

/-- The whole weight scratch as loaded is the scratch. -/
theorem readWeights (arg : Memref sig .tc .vmem S4096x512 .bf16) (harg : arg.IsWhole) (x : Vec Ideal S4096x512 .bf16) (inb) :
    View.readAt (Elt Ideal) arg.view (Rect.unit (s := S4096x512) ![0, 0] S4096x512.size inb).toLoadRect (harg.unread x) = x := by
  funext j
  rw [Memref.IsWhole.readAt_unread]
  congr 1
  funext a
  apply Fin.ext
  refine (Rect.idx_unit_val _ _ _ _ _).trans ?_
  fin_cases a <;> exact Nat.zero_add _

/-- The stored tiles cover the weight scratch, so it holds the weights. -/
theorem weights_canon (c : Dev nD) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole)
    (arg10 : Memref sig .tc .vmem S64x512 .i32) (arg11 : Memref sig .tc .vmem S64x512 .i32)
    (x2 : Vec Ideal S512x2048 .i8) (x3 x4 : Vec Ideal S512x64 .i8) (y : S4096x512.Idx) :
    View.canon (kernelRun0_A.sl.HS0_256 (F := Ideal) c arg4 harg4 arg5 harg5 arg6 harg6 arg10 arg11 x2 x3 x4) y = weightAt x2 x3 x4 y :=
  View.canon_eq_of_allAt _ _ _
    (View.cover_of_tiledL (kernelRun0_A.sl.HS0_256 (F := Ideal) c arg4 harg4 arg5 harg5 arg6 harg6 arg10 arg11 x2 x3 x4) S64x128.size (by sl_kernel_rfl) y)
    (weights_allAt c arg4 harg4 arg5 harg5 arg6 harg6 arg10 arg11 x2 x3 x4 y)

/-- The whole weight scratch read back after the stores. -/
theorem readBack (c : Dev nD) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole)
    (arg9 : Memref sig .tc .vmem S4096x512 .bf16) (arg10 : Memref sig .tc .vmem S64x512 .i32) (arg11 : Memref sig .tc .vmem S64x512 .i32)
    (x2 : Vec Ideal S512x2048 .i8) (x3 x4 : Vec Ideal S512x64 .i8) :
    kernelRun0_A.sl.v6 (F := Ideal) c arg4 harg4 arg5 harg5 arg6 harg6 arg9 arg10 arg11 x2 x3 x4 = weightAt x2 x3 x4 := by
  unfold kernelRun0_A.sl.v6
  refine (View.readCov_eq_canon' _ _ _).trans ?_
  funext j
  refine (weights_canon _ _ _ _ _ _ _ _ _ _ _ _ _).trans ?_
  congr 1
  funext a
  apply Fin.ext
  refine (Rect.idx_unit_val _ _ _ _ _).trans ?_
  fin_cases a <;> exact Nat.zero_add _

/-- THE FIRST VISIT leaves the weights in the scratch. -/
theorem sout_A (c : Dev nD) (i : grid0.Coords) (arg2 : Memref sig .tc .vmem S1024x4096 .i8) (harg2 : arg2.IsWhole) (arg3 : Memref sig .tc .vmem S48x128 .f32) (harg3 : arg3.IsWhole) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole) (arg7 : Memref sig .tc .vmem S44x128 .f32) (harg7 : arg7.IsWhole) (arg8 : Memref sig .tc .vmem S1024x512 .bf16) (harg8 : arg8.IsWhole) (arg9 : Memref sig .tc .vmem S4096x512 .bf16) (harg9 : arg9.IsWhole) (arg10 : Memref sig .tc .vmem S64x512 .i32) (harg10 : arg10.IsWhole) (arg11 : Memref sig .tc .vmem S64x512 .i32) (harg11 : arg11.IsWhole) (hc0 : cond0_0 i) (x0 : Vec Ideal S1024x4096 .i8) (x1 : Vec Ideal S48x128 .f32) (x2 : Vec Ideal S512x2048 .i8) (x3 : Vec Ideal S512x64 .i8) (x4 : Vec Ideal S512x64 .i8) (x5 : Vec Ideal S44x128 .f32) :
    sout0_A_0 (F := Ideal) c i arg2 harg2 arg3 harg3 arg4 harg4 arg5 harg5 arg6 harg6 arg7 harg7 arg8 harg8 arg9 harg9 arg10 harg10 arg11 harg11 hc0 x0 x1 x2 x3 x4 x5 = weightAt x2 x3 x4 := by
  unfold sout0_A_0
  refine (View.read_writes_junk_eq_canon _ _).trans ?_
  funext y
  exact weights_canon c arg4 harg4 arg5 harg5 arg6 harg6 arg10 arg11 x2 x3 x4 y

/-- Every output tile of a first visit holds the output. -/
theorem out_allAt_A (c : Dev nD) (i : grid0.Coords) (arg2 : Memref sig .tc .vmem S1024x4096 .i8) (harg2 : arg2.IsWhole) (arg3 : Memref sig .tc .vmem S48x128 .f32) (harg3 : arg3.IsWhole) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole) (arg7 : Memref sig .tc .vmem S44x128 .f32) (harg7 : arg7.IsWhole) (arg8 : Memref sig .tc .vmem S1024x512 .bf16) (harg8 : arg8.IsWhole) (arg9 : Memref sig .tc .vmem S4096x512 .bf16) (harg9 : arg9.IsWhole) (arg10 : Memref sig .tc .vmem S64x512 .i32) (harg10 : arg10.IsWhole) (arg11 : Memref sig .tc .vmem S64x512 .i32) (harg11 : arg11.IsWhole) (hc0 : cond0_0 i) (x0 : Vec Ideal S1024x4096 .i8) (x1 : Vec Ideal S48x128 .f32) (x2 : Vec Ideal S512x2048 .i8) (x3 : Vec Ideal S512x64 .i8) (x4 : Vec Ideal S512x64 .i8) (x5 : Vec Ideal S44x128 .f32) (y : S1024x512.Idx) :
    View.AllAt (kernelRun0_A (F := Ideal) c i arg2 harg2 arg3 harg3 arg4 harg4 arg5 harg5 arg6 harg6 arg7 harg7 arg8 harg8 arg9 harg9 arg10 harg10 arg11 harg11 hc0 x0 x1 x2 x3 x4 x5).1 y (outAt i x0 (weightAt x2 x3 x4) x1 x5 y) := by
  unfold kernelRun0_A
  dsimp only
  have hacc : ∀ p q, kernelRun0_A.sl.r_254 (F := Ideal) c arg2 harg2 arg4 harg4 arg5 harg5 arg6 harg6 arg9 arg10 arg11 x0 x2 x3 x4 (ix2 p q)
      = accAt x0 (weightAt x2 x3 x4) p q := by
    intro p q
    unfold kernelRun0_A.sl.r_254
    rw [readActs, readBack, acc_apply]
  have T := fun (r b : ℕ) hr hb inbx inbw hs =>
    out_tile_ok i arg3 harg3 arg7 harg7 x0 (weightAt x2 x3 x4) x1 x5 _ hacc y r b hr hb inbx inbw hs
  refine View.allAt_cons_unit _ _ _ _ _ (T 7 3 (by decide) (by decide) (k0_off2_inb i 7) (k0_off1_inb i 3) slices_S1024x512_o896_384_S128x128) ?_
  refine View.allAt_cons_unit _ _ _ _ _ (T 7 2 (by decide) (by decide) (k0_off2_inb i 7) (k0_off1_inb i 2) slices_S1024x512_o896_256_S128x128) ?_
  refine View.allAt_cons_unit _ _ _ _ _ (T 7 1 (by decide) (by decide) (k0_off2_inb i 7) (k0_off1_inb i 1) slices_S1024x512_o896_128_S128x128) ?_
  refine View.allAt_cons_unit _ _ _ _ _ (T 7 0 (by decide) (by decide) (k0_off2_inb i 7) (k0_off1_inb i 0) slices_S1024x512_o896_0_S128x128) ?_
  refine View.allAt_cons_unit _ _ _ _ _ (T 6 3 (by decide) (by decide) (k0_off2_inb i 6) (k0_off1_inb i 3) slices_S1024x512_o768_384_S128x128) ?_
  refine View.allAt_cons_unit _ _ _ _ _ (T 6 2 (by decide) (by decide) (k0_off2_inb i 6) (k0_off1_inb i 2) slices_S1024x512_o768_256_S128x128) ?_
  refine View.allAt_cons_unit _ _ _ _ _ (T 6 1 (by decide) (by decide) (k0_off2_inb i 6) (k0_off1_inb i 1) slices_S1024x512_o768_128_S128x128) ?_
  refine View.allAt_cons_unit _ _ _ _ _ (T 6 0 (by decide) (by decide) (k0_off2_inb i 6) (k0_off1_inb i 0) slices_S1024x512_o768_0_S128x128) ?_
  refine View.allAt_cons_unit _ _ _ _ _ (T 5 3 (by decide) (by decide) (k0_off2_inb i 5) (k0_off1_inb i 3) slices_S1024x512_o640_384_S128x128) ?_
  refine View.allAt_cons_unit _ _ _ _ _ (T 5 2 (by decide) (by decide) (k0_off2_inb i 5) (k0_off1_inb i 2) slices_S1024x512_o640_256_S128x128) ?_
  refine View.allAt_cons_unit _ _ _ _ _ (T 5 1 (by decide) (by decide) (k0_off2_inb i 5) (k0_off1_inb i 1) slices_S1024x512_o640_128_S128x128) ?_
  refine View.allAt_cons_unit _ _ _ _ _ (T 5 0 (by decide) (by decide) (k0_off2_inb i 5) (k0_off1_inb i 0) slices_S1024x512_o640_0_S128x128) ?_
  refine View.allAt_cons_unit _ _ _ _ _ (T 4 3 (by decide) (by decide) (k0_off2_inb i 4) (k0_off1_inb i 3) slices_S1024x512_o512_384_S128x128) ?_
  refine View.allAt_cons_unit _ _ _ _ _ (T 4 2 (by decide) (by decide) (k0_off2_inb i 4) (k0_off1_inb i 2) slices_S1024x512_o512_256_S128x128) ?_
  refine View.allAt_cons_unit _ _ _ _ _ (T 4 1 (by decide) (by decide) (k0_off2_inb i 4) (k0_off1_inb i 1) slices_S1024x512_o512_128_S128x128) ?_
  refine View.allAt_cons_unit _ _ _ _ _ (T 4 0 (by decide) (by decide) (k0_off2_inb i 4) (k0_off1_inb i 0) slices_S1024x512_o512_0_S128x128) ?_
  refine View.allAt_cons_unit _ _ _ _ _ (T 3 3 (by decide) (by decide) (k0_off2_inb i 3) (k0_off1_inb i 3) slices_S1024x512_o384_384_S128x128) ?_
  refine View.allAt_cons_unit _ _ _ _ _ (T 3 2 (by decide) (by decide) (k0_off2_inb i 3) (k0_off1_inb i 2) slices_S1024x512_o384_256_S128x128) ?_
  refine View.allAt_cons_unit _ _ _ _ _ (T 3 1 (by decide) (by decide) (k0_off2_inb i 3) (k0_off1_inb i 1) slices_S1024x512_o384_128_S128x128) ?_
  refine View.allAt_cons_unit _ _ _ _ _ (T 3 0 (by decide) (by decide) (k0_off2_inb i 3) (k0_off1_inb i 0) slices_S1024x512_o384_0_S128x128) ?_
  refine View.allAt_cons_unit _ _ _ _ _ (T 2 3 (by decide) (by decide) (k0_off2_inb i 2) (k0_off1_inb i 3) slices_S1024x512_o256_384_S128x128) ?_
  refine View.allAt_cons_unit _ _ _ _ _ (T 2 2 (by decide) (by decide) (k0_off2_inb i 2) (k0_off1_inb i 2) slices_S1024x512_o256_256_S128x128) ?_
  refine View.allAt_cons_unit _ _ _ _ _ (T 2 1 (by decide) (by decide) (k0_off2_inb i 2) (k0_off1_inb i 1) slices_S1024x512_o256_128_S128x128) ?_
  refine View.allAt_cons_unit _ _ _ _ _ (T 2 0 (by decide) (by decide) (k0_off2_inb i 2) (k0_off1_inb i 0) slices_S1024x512_o256_0_S128x128) ?_
  refine View.allAt_cons_unit _ _ _ _ _ (T 1 3 (by decide) (by decide) (k0_off2_inb i 1) (k0_off1_inb i 3) slices_S1024x512_o128_384_S128x128) ?_
  refine View.allAt_cons_unit _ _ _ _ _ (T 1 2 (by decide) (by decide) (k0_off2_inb i 1) (k0_off1_inb i 2) slices_S1024x512_o128_256_S128x128) ?_
  refine View.allAt_cons_unit _ _ _ _ _ (T 1 1 (by decide) (by decide) (k0_off2_inb i 1) (k0_off1_inb i 1) slices_S1024x512_o128_128_S128x128) ?_
  refine View.allAt_cons_unit _ _ _ _ _ (T 1 0 (by decide) (by decide) (k0_off2_inb i 1) (k0_off1_inb i 0) slices_S1024x512_o128_0_S128x128) ?_
  refine View.allAt_cons_unit _ _ _ _ _ (T 0 3 (by decide) (by decide) (k0_off2_inb i 0) (k0_off1_inb i 3) slices_S1024x512_o0_384_S128x128) ?_
  refine View.allAt_cons_unit _ _ _ _ _ (T 0 2 (by decide) (by decide) (k0_off2_inb i 0) (k0_off1_inb i 2) slices_S1024x512_o0_256_S128x128) ?_
  refine View.allAt_cons_unit _ _ _ _ _ (T 0 1 (by decide) (by decide) (k0_off2_inb i 0) (k0_off1_inb i 1) slices_S1024x512_o0_128_S128x128) ?_
  refine View.allAt_cons_unit _ _ _ _ _ (T 0 0 (by decide) (by decide) (k0_off2_inb i 0) (k0_off1_inb i 0) slices_S1024x512_o0_0_S128x128) ?_
  exact View.allAt_nil _ _

/-- THE OUTPUT BLOCK OF A FIRST VISIT. -/
theorem out_A (c : Dev nD) (i : grid0.Coords) (arg2 : Memref sig .tc .vmem S1024x4096 .i8) (harg2 : arg2.IsWhole) (arg3 : Memref sig .tc .vmem S48x128 .f32) (harg3 : arg3.IsWhole) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole) (arg7 : Memref sig .tc .vmem S44x128 .f32) (harg7 : arg7.IsWhole) (arg8 : Memref sig .tc .vmem S1024x512 .bf16) (harg8 : arg8.IsWhole) (arg9 : Memref sig .tc .vmem S4096x512 .bf16) (harg9 : arg9.IsWhole) (arg10 : Memref sig .tc .vmem S64x512 .i32) (harg10 : arg10.IsWhole) (arg11 : Memref sig .tc .vmem S64x512 .i32) (harg11 : arg11.IsWhole) (hc0 : cond0_0 i) (x0 : Vec Ideal S1024x4096 .i8) (x1 : Vec Ideal S48x128 .f32) (x2 : Vec Ideal S512x2048 .i8) (x3 : Vec Ideal S512x64 .i8) (x4 : Vec Ideal S512x64 .i8) (x5 : Vec Ideal S44x128 .f32) :
    out0_A_6 (F := Ideal) c i arg2 harg2 arg3 harg3 arg4 harg4 arg5 harg5 arg6 harg6 arg7 harg7 arg8 harg8 arg9 harg9 arg10 harg10 arg11 harg11 hc0 x0 x1 x2 x3 x4 x5 = outAt i x0 (weightAt x2 x3 x4) x1 x5 := by
  unfold out0_A_6
  refine (View.read_writes_junk_eq_canon _ _).trans ?_
  funext y
  exact View.canon_eq_of_allAt _ _ _ (cover0_A_6 c i arg2 harg2 arg3 harg3 arg4 harg4 arg5 harg5 arg6 harg6 arg7 harg7 arg8 harg8 arg9 harg9 arg10 harg10 arg11 harg11 hc0 x0 x1 x2 x3 x4 x5 y) (out_allAt_A c i arg2 harg2 arg3 harg3 arg4 harg4 arg5 harg5 arg6 harg6 arg7 harg7 arg8 harg8 arg9 harg9 arg10 harg10 arg11 harg11 hc0 x0 x1 x2 x3 x4 x5 y)

/-- Every output tile of a later visit holds the output, over the weights it finds. -/
theorem out_allAt_B (c : Dev nD) (i : grid0.Coords) (arg2 : Memref sig .tc .vmem S1024x4096 .i8) (harg2 : arg2.IsWhole) (arg3 : Memref sig .tc .vmem S48x128 .f32) (harg3 : arg3.IsWhole) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole) (arg7 : Memref sig .tc .vmem S44x128 .f32) (harg7 : arg7.IsWhole) (arg8 : Memref sig .tc .vmem S1024x512 .bf16) (harg8 : arg8.IsWhole) (arg9 : Memref sig .tc .vmem S4096x512 .bf16) (harg9 : arg9.IsWhole) (arg10 : Memref sig .tc .vmem S64x512 .i32) (harg10 : arg10.IsWhole) (arg11 : Memref sig .tc .vmem S64x512 .i32) (harg11 : arg11.IsWhole) (hc0 : ¬cond0_0 i) (x0 : Vec Ideal S1024x4096 .i8) (x1 : Vec Ideal S48x128 .f32) (x2 : Vec Ideal S512x2048 .i8) (x3 : Vec Ideal S512x64 .i8) (x4 : Vec Ideal S512x64 .i8) (x5 : Vec Ideal S44x128 .f32) (xs0 : Vec Ideal S4096x512 .bf16) (y : S1024x512.Idx) :
    View.AllAt (kernelRun0_B (F := Ideal) c i arg2 harg2 arg3 harg3 arg4 harg4 arg5 harg5 arg6 harg6 arg7 harg7 arg8 harg8 arg9 harg9 arg10 harg10 arg11 harg11 hc0 x0 x1 x2 x3 x4 x5 xs0).1 y (outAt i x0 xs0 x1 x5 y) := by
  unfold kernelRun0_B
  dsimp only
  have hacc : ∀ p q, kernelRun0_B.sl.r (F := Ideal) c arg2 harg2 arg9 harg9 x0 xs0 (ix2 p q) = accAt x0 xs0 p q := by
    intro p q
    unfold kernelRun0_B.sl.r
    rw [readActs, readWeights, acc_apply]
  have T := fun (r b : ℕ) hr hb inbx inbw hs =>
    out_tile_ok i arg3 harg3 arg7 harg7 x0 xs0 x1 x5 _ hacc y r b hr hb inbx inbw hs
  refine View.allAt_cons_unit _ _ _ _ _ (T 7 3 (by decide) (by decide) (k0_off2_inb i 7) (k0_off1_inb i 3) slices_S1024x512_o896_384_S128x128) ?_
  refine View.allAt_cons_unit _ _ _ _ _ (T 7 2 (by decide) (by decide) (k0_off2_inb i 7) (k0_off1_inb i 2) slices_S1024x512_o896_256_S128x128) ?_
  refine View.allAt_cons_unit _ _ _ _ _ (T 7 1 (by decide) (by decide) (k0_off2_inb i 7) (k0_off1_inb i 1) slices_S1024x512_o896_128_S128x128) ?_
  refine View.allAt_cons_unit _ _ _ _ _ (T 7 0 (by decide) (by decide) (k0_off2_inb i 7) (k0_off1_inb i 0) slices_S1024x512_o896_0_S128x128) ?_
  refine View.allAt_cons_unit _ _ _ _ _ (T 6 3 (by decide) (by decide) (k0_off2_inb i 6) (k0_off1_inb i 3) slices_S1024x512_o768_384_S128x128) ?_
  refine View.allAt_cons_unit _ _ _ _ _ (T 6 2 (by decide) (by decide) (k0_off2_inb i 6) (k0_off1_inb i 2) slices_S1024x512_o768_256_S128x128) ?_
  refine View.allAt_cons_unit _ _ _ _ _ (T 6 1 (by decide) (by decide) (k0_off2_inb i 6) (k0_off1_inb i 1) slices_S1024x512_o768_128_S128x128) ?_
  refine View.allAt_cons_unit _ _ _ _ _ (T 6 0 (by decide) (by decide) (k0_off2_inb i 6) (k0_off1_inb i 0) slices_S1024x512_o768_0_S128x128) ?_
  refine View.allAt_cons_unit _ _ _ _ _ (T 5 3 (by decide) (by decide) (k0_off2_inb i 5) (k0_off1_inb i 3) slices_S1024x512_o640_384_S128x128) ?_
  refine View.allAt_cons_unit _ _ _ _ _ (T 5 2 (by decide) (by decide) (k0_off2_inb i 5) (k0_off1_inb i 2) slices_S1024x512_o640_256_S128x128) ?_
  refine View.allAt_cons_unit _ _ _ _ _ (T 5 1 (by decide) (by decide) (k0_off2_inb i 5) (k0_off1_inb i 1) slices_S1024x512_o640_128_S128x128) ?_
  refine View.allAt_cons_unit _ _ _ _ _ (T 5 0 (by decide) (by decide) (k0_off2_inb i 5) (k0_off1_inb i 0) slices_S1024x512_o640_0_S128x128) ?_
  refine View.allAt_cons_unit _ _ _ _ _ (T 4 3 (by decide) (by decide) (k0_off2_inb i 4) (k0_off1_inb i 3) slices_S1024x512_o512_384_S128x128) ?_
  refine View.allAt_cons_unit _ _ _ _ _ (T 4 2 (by decide) (by decide) (k0_off2_inb i 4) (k0_off1_inb i 2) slices_S1024x512_o512_256_S128x128) ?_
  refine View.allAt_cons_unit _ _ _ _ _ (T 4 1 (by decide) (by decide) (k0_off2_inb i 4) (k0_off1_inb i 1) slices_S1024x512_o512_128_S128x128) ?_
  refine View.allAt_cons_unit _ _ _ _ _ (T 4 0 (by decide) (by decide) (k0_off2_inb i 4) (k0_off1_inb i 0) slices_S1024x512_o512_0_S128x128) ?_
  refine View.allAt_cons_unit _ _ _ _ _ (T 3 3 (by decide) (by decide) (k0_off2_inb i 3) (k0_off1_inb i 3) slices_S1024x512_o384_384_S128x128) ?_
  refine View.allAt_cons_unit _ _ _ _ _ (T 3 2 (by decide) (by decide) (k0_off2_inb i 3) (k0_off1_inb i 2) slices_S1024x512_o384_256_S128x128) ?_
  refine View.allAt_cons_unit _ _ _ _ _ (T 3 1 (by decide) (by decide) (k0_off2_inb i 3) (k0_off1_inb i 1) slices_S1024x512_o384_128_S128x128) ?_
  refine View.allAt_cons_unit _ _ _ _ _ (T 3 0 (by decide) (by decide) (k0_off2_inb i 3) (k0_off1_inb i 0) slices_S1024x512_o384_0_S128x128) ?_
  refine View.allAt_cons_unit _ _ _ _ _ (T 2 3 (by decide) (by decide) (k0_off2_inb i 2) (k0_off1_inb i 3) slices_S1024x512_o256_384_S128x128) ?_
  refine View.allAt_cons_unit _ _ _ _ _ (T 2 2 (by decide) (by decide) (k0_off2_inb i 2) (k0_off1_inb i 2) slices_S1024x512_o256_256_S128x128) ?_
  refine View.allAt_cons_unit _ _ _ _ _ (T 2 1 (by decide) (by decide) (k0_off2_inb i 2) (k0_off1_inb i 1) slices_S1024x512_o256_128_S128x128) ?_
  refine View.allAt_cons_unit _ _ _ _ _ (T 2 0 (by decide) (by decide) (k0_off2_inb i 2) (k0_off1_inb i 0) slices_S1024x512_o256_0_S128x128) ?_
  refine View.allAt_cons_unit _ _ _ _ _ (T 1 3 (by decide) (by decide) (k0_off2_inb i 1) (k0_off1_inb i 3) slices_S1024x512_o128_384_S128x128) ?_
  refine View.allAt_cons_unit _ _ _ _ _ (T 1 2 (by decide) (by decide) (k0_off2_inb i 1) (k0_off1_inb i 2) slices_S1024x512_o128_256_S128x128) ?_
  refine View.allAt_cons_unit _ _ _ _ _ (T 1 1 (by decide) (by decide) (k0_off2_inb i 1) (k0_off1_inb i 1) slices_S1024x512_o128_128_S128x128) ?_
  refine View.allAt_cons_unit _ _ _ _ _ (T 1 0 (by decide) (by decide) (k0_off2_inb i 1) (k0_off1_inb i 0) slices_S1024x512_o128_0_S128x128) ?_
  refine View.allAt_cons_unit _ _ _ _ _ (T 0 3 (by decide) (by decide) (k0_off2_inb i 0) (k0_off1_inb i 3) slices_S1024x512_o0_384_S128x128) ?_
  refine View.allAt_cons_unit _ _ _ _ _ (T 0 2 (by decide) (by decide) (k0_off2_inb i 0) (k0_off1_inb i 2) slices_S1024x512_o0_256_S128x128) ?_
  refine View.allAt_cons_unit _ _ _ _ _ (T 0 1 (by decide) (by decide) (k0_off2_inb i 0) (k0_off1_inb i 1) slices_S1024x512_o0_128_S128x128) ?_
  refine View.allAt_cons_unit _ _ _ _ _ (T 0 0 (by decide) (by decide) (k0_off2_inb i 0) (k0_off1_inb i 0) slices_S1024x512_o0_0_S128x128) ?_
  exact View.allAt_nil _ _

/-- THE OUTPUT BLOCK OF A LATER VISIT. -/
theorem out_B (c : Dev nD) (i : grid0.Coords) (arg2 : Memref sig .tc .vmem S1024x4096 .i8) (harg2 : arg2.IsWhole) (arg3 : Memref sig .tc .vmem S48x128 .f32) (harg3 : arg3.IsWhole) (arg4 : Memref sig .tc .vmem S512x2048 .i8) (harg4 : arg4.IsWhole) (arg5 : Memref sig .tc .vmem S512x64 .i8) (harg5 : arg5.IsWhole) (arg6 : Memref sig .tc .vmem S512x64 .i8) (harg6 : arg6.IsWhole) (arg7 : Memref sig .tc .vmem S44x128 .f32) (harg7 : arg7.IsWhole) (arg8 : Memref sig .tc .vmem S1024x512 .bf16) (harg8 : arg8.IsWhole) (arg9 : Memref sig .tc .vmem S4096x512 .bf16) (harg9 : arg9.IsWhole) (arg10 : Memref sig .tc .vmem S64x512 .i32) (harg10 : arg10.IsWhole) (arg11 : Memref sig .tc .vmem S64x512 .i32) (harg11 : arg11.IsWhole) (hc0 : ¬cond0_0 i) (x0 : Vec Ideal S1024x4096 .i8) (x1 : Vec Ideal S48x128 .f32) (x2 : Vec Ideal S512x2048 .i8) (x3 : Vec Ideal S512x64 .i8) (x4 : Vec Ideal S512x64 .i8) (x5 : Vec Ideal S44x128 .f32) (xs0 : Vec Ideal S4096x512 .bf16) :
    out0_B_6 (F := Ideal) c i arg2 harg2 arg3 harg3 arg4 harg4 arg5 harg5 arg6 harg6 arg7 harg7 arg8 harg8 arg9 harg9 arg10 harg10 arg11 harg11 hc0 x0 x1 x2 x3 x4 x5 xs0 = outAt i x0 xs0 x1 x5 := by
  unfold out0_B_6
  refine (View.read_writes_junk_eq_canon _ _).trans ?_
  funext y
  exact View.canon_eq_of_allAt _ _ _ (cover0_B_6 c i arg2 harg2 arg3 harg3 arg4 harg4 arg5 harg5 arg6 harg6 arg7 harg7 arg8 harg8 arg9 harg9 arg10 harg10 arg11 harg11 hc0 x0 x1 x2 x3 x4 x5 xs0 y) (out_allAt_B c i arg2 harg2 arg3 harg3 arg4 harg4 arg5 harg5 arg6 harg6 arg7 harg7 arg8 harg8 arg9 harg9 arg10 harg10 arg11 harg11 hc0 x0 x1 x2 x3 x4 x5 xs0 y)

end Cert.W4A8

end
-- ==== Proof.Blocks.lean ====
/- What the kernel's windows hold at a grid point, as elements of the argument arrays, and the value the whole program
   is to leave in its result. -/
module

public import proofs.«01_k».proof.Proof.Visit
public import proofs.«01_k».proof.Proof.Gen.KernelIdeal.Value
public import Idealize.ShloMosaic.Lib.Pointwise

@[expose] public section

set_option maxRecDepth 65536

noncomputable section

namespace Cert.W4A8

open Cert.KernelIdeal Cert.KernelIdeal.Gen Idealize.ShloMosaic Idealize.ShloMosaic.TcCoe Idealize.SL.Sem

/-- The dequantized weight of contraction position `k` and output column `q`. -/
def wVal (a2 : Vec Ideal S5632x2048 .i8) (a3 a4 : Vec Ideal S5632x64 .i8) (k : Fin 4096) (q : Fin 5632) : EReal :=
  nibR (a2 (ix2 q (⟨k.val / 2, by omega⟩ : Fin 2048))) (k.val % 2) * byteR (a3 (ix2 q (⟨k.val / 64, by omega⟩ : Fin 64)))
    - byteR (a4 (ix2 q (⟨k.val / 64, by omega⟩ : Fin 64)))

/-- The result element of row `r` and column `q`: the products summed, scaled by the row's and the column's factors. -/
def outVal (a0 : Vec Ideal S2x3072x4096 .i8) (a1 : Vec Ideal S2x3072 .f32) (a2 : Vec Ideal S5632x2048 .i8)
    (a3 a4 : Vec Ideal S5632x64 .i8) (a5 : Vec Ideal S5632 .f32) (r : Fin 6144) (q : Fin 5632) : EReal :=
  (∑ k : Fin 4096, (((a0 (ix3 (⟨r.val / 3072, by omega⟩ : Fin 2) (⟨r.val % 3072, by omega⟩ : Fin 3072) k)).toInt : ℝ) : EReal)
      * wVal a2 a3 a4 k q)
    * a1 (ix2 (⟨r.val / 3072, by omega⟩ : Fin 2) (⟨r.val % 3072, by omega⟩ : Fin 3072)) * a5 (ix1 q)

/-- The host's reshapes, read at an element. -/
theorem join_x (x : Vec Ideal S2x3072x4096 .i8) (r : Fin 6144) (k : Fin 4096) :
    shapeCast S6144x4096 x shapeCasts_S2x3072x4096_S6144x4096 (ix2 r k)
      = x (ix3 (⟨r.val / 3072, by omega⟩ : Fin 2) (⟨r.val % 3072, by omega⟩ : Fin 3072) k) := by
  pointwise
theorem join_xs (x : Vec Ideal S2x3072 .f32) (r : Fin 6144) :
    shapeCast S48x128 x shapeCasts_S2x3072_S48x128 (ix2 (⟨r.val / 128, by omega⟩ : Fin 48) (⟨r.val % 128, by omega⟩ : Fin 128))
      = x (ix2 (⟨r.val / 3072, by omega⟩ : Fin 2) (⟨r.val % 3072, by omega⟩ : Fin 3072)) := by
  pointwise
  congr 2 <;> apply Fin.ext <;> dsimp only <;> omega
theorem join_wc (x : Vec Ideal S5632 .f32) (q : Fin 5632) :
    shapeCast S44x128 x shapeCasts_S5632_S44x128 (ix2 (⟨q.val / 128, by omega⟩ : Fin 44) (⟨q.val % 128, by omega⟩ : Fin 128))
      = x (ix1 q) := by
  pointwise

variable (m : (ℓ : Loc nD τ sig) → Buf (Elt Ideal) ℓ) (c : Dev nD)

/-- The activations as the region finds them: the argument, its two row axes joined. -/
theorem V_x (r : Fin 6144) (k : Fin 4096) : V m c main_v0 (ix2 r k)
    = (m ((c : Thread nD τ).loc main_arg0)) (ix3 (⟨r.val / 3072, by omega⟩ : Fin 2) (⟨r.val % 3072, by omega⟩ : Fin 3072) k) := by
  have h : V m c main_v0 = shapeCast S6144x4096 (m ((c : Thread nD τ).loc main_arg0)) shapeCasts_S2x3072x4096_S6144x4096 := by
    unfold_abbrev_sides
    after_results
    rfl
  rw [h]
  exact join_x _ r k

/-- The row factors as the region finds them. -/
theorem V_xs (r : Fin 6144) : V m c main_v1 (ix2 (⟨r.val / 128, by omega⟩ : Fin 48) (⟨r.val % 128, by omega⟩ : Fin 128))
    = (m ((c : Thread nD τ).loc main_arg1)) (ix2 (⟨r.val / 3072, by omega⟩ : Fin 2) (⟨r.val % 3072, by omega⟩ : Fin 3072)) := by
  have h : V m c main_v1 = shapeCast S48x128 (m ((c : Thread nD τ).loc main_arg1)) shapeCasts_S2x3072_S48x128 := by
    unfold_abbrev_sides
    after_results
    rfl
  rw [h]
  exact join_xs _ r

/-- The column factors as the region finds them. -/
theorem V_wc (q : Fin 5632) : V m c main_v2 (ix2 (⟨q.val / 128, by omega⟩ : Fin 44) (⟨q.val % 128, by omega⟩ : Fin 128))
    = (m ((c : Thread nD τ).loc main_arg5)) (ix1 q) := by
  have h : V m c main_v2 = shapeCast S44x128 (m ((c : Thread nD τ).loc main_arg5)) shapeCasts_S5632_S44x128 := by
    unfold_abbrev_sides
    after_results
    rfl
  rw [h]
  exact join_wc _ q

/-- Point `t`'s grid coordinates. -/
theorem coords0 (t : Fin cfg0.N) : (grid0.coords t 0).val = t.val / 6 := by
  have e : (grid0.coords t 0).val = t.val / 6 % 11 := Pipeline.Grid.coords_val t 0 (by decide) rfl
  have hN := lt_of_lt_of_eq t.isLt (show cfg0.N = 66 from N_0)
  omega
theorem coords1 (t : Fin cfg0.N) : (grid0.coords t 1).val = t.val % 6 := by
  have e : (grid0.coords t 1).val = t.val / 1 % 6 := Pipeline.Grid.coords_val t 1 (by decide) rfl
  omega

/-- The windows' block indices, decided over the grid. -/
theorem idx0 : ∀ t : Fin cfg0.N, win0_0.index t (0 : Fin 2) = t.val % 6 ∧ win0_0.index t (1 : Fin 2) = 0 :=
  (by decide +kernel : ∀ t : Fin grid0.N, win0_0.index t (0 : Fin 2) = t.val % 6 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val / 6 ∧ win0_2.index t (1 : Fin 2) = 0 :=
  (by decide +kernel : ∀ t : Fin grid0.N, win0_2.index t (0 : Fin 2) = t.val / 6 ∧ win0_2.index t (1 : Fin 2) = 0)
theorem idx3 : ∀ t : Fin cfg0.N, win0_3.index t (0 : Fin 2) = t.val / 6 ∧ win0_3.index t (1 : Fin 2) = 0 :=
  (by decide +kernel : ∀ t : Fin grid0.N, win0_3.index t (0 : Fin 2) = t.val / 6 ∧ win0_3.index t (1 : Fin 2) = 0)
theorem idx4 : ∀ t : Fin cfg0.N, win0_4.index t (0 : Fin 2) = t.val / 6 ∧ win0_4.index t (1 : Fin 2) = 0 :=
  (by decide +kernel : ∀ t : Fin grid0.N, win0_4.index t (0 : Fin 2) = t.val / 6 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The grid has 66 points. -/
theorem lt66 (t : Fin cfg0.N) : t.val < 66 := lt_of_lt_of_eq t.isLt (show cfg0.N = 66 from N_0)

/-- The activation block at point `t`. -/
theorem blk0 (t : Fin cfg0.N) (p : Fin 1024) (k : Fin 4096) :
    iblk m c 0 t (ix2 p k) = V m c main_v0 (ix2 (⟨1024 * (t.val % 6) + p.val, by have := lt66 t; omega⟩ : Fin 6144) k) := by
  show V m c main_v0 _ = V m c main_v0 _
  congr 1
  funext a
  apply Fin.ext
  obtain ⟨h0, h1⟩ := idx0 t
  fin_cases a
  · show win0_0.index t (0 : Fin 2) * 1024 + 1 * p.val = _
    rw [h0]; show _ = 1024 * (t.val % 6) + p.val; omega
  · show win0_0.index t (1 : Fin 2) * 4096 + 1 * k.val = _
    rw [h1]; show _ = k.val; omega

/-- The row-factor table at point `t`: the whole array. -/
theorem blk1 (t : Fin cfg0.N) (p : Fin 48) (k : Fin 128) : iblk m c 1 t (ix2 p k) = V m c main_v1 (ix2 p k) := by
  show V m c main_v1 _ = V m c main_v1 _
  congr 1
  funext a
  apply Fin.ext
  obtain ⟨h0, h1⟩ := idx1 t
  fin_cases a
  · show win0_1.index t (0 : Fin 2) * 48 + 1 * p.val = _
    rw [h0]; show _ = p.val; omega
  · show win0_1.index t (1 : Fin 2) * 128 + 1 * k.val = _
    rw [h1]; show _ = k.val; omega

/-- The packed weight block at point `t`. -/
theorem blk2 (t : Fin cfg0.N) (p : Fin 512) (k : Fin 2048) :
    iblk m c 2 t (ix2 p k) = (m ((c : Thread nD τ).loc main_arg2)) (ix2 (⟨512 * (t.val / 6) + p.val, by have := lt66 t; omega⟩ : Fin 5632) k) := by
  rw [← V_main_arg2 m c]
  show V m c main_arg2 _ = V m c main_arg2 _
  congr 1
  funext a
  apply Fin.ext
  obtain ⟨h0, h1⟩ := idx2 t
  fin_cases a
  · show win0_2.index t (0 : Fin 2) * 512 + 1 * p.val = _
    rw [h0]; show _ = 512 * (t.val / 6) + p.val; omega
  · show win0_2.index t (1 : Fin 2) * 2048 + 1 * k.val = _
    rw [h1]; show _ = k.val; omega

/-- The scale block at point `t`. -/
theorem blk3 (t : Fin cfg0.N) (p : Fin 512) (k : Fin 64) :
    iblk m c 3 t (ix2 p k) = (m ((c : Thread nD τ).loc main_arg3)) (ix2 (⟨512 * (t.val / 6) + p.val, by have := lt66 t; omega⟩ : Fin 5632) k) := by
  rw [← V_main_arg3 m c]
  show V m c main_arg3 _ = V m c main_arg3 _
  congr 1
  funext a
  apply Fin.ext
  obtain ⟨h0, h1⟩ := idx3 t
  fin_cases a
  · show win0_3.index t (0 : Fin 2) * 512 + 1 * p.val = _
    rw [h0]; show _ = 512 * (t.val / 6) + p.val; omega
  · show win0_3.index t (1 : Fin 2) * 64 + 1 * k.val = _
    rw [h1]; show _ = k.val; omega

/-- The zero-point block at point `t`. -/
theorem blk4 (t : Fin cfg0.N) (p : Fin 512) (k : Fin 64) :
    iblk m c 4 t (ix2 p k) = (m ((c : Thread nD τ).loc main_arg4)) (ix2 (⟨512 * (t.val / 6) + p.val, by have := lt66 t; omega⟩ : Fin 5632) k) := by
  rw [← V_main_arg4 m c]
  show V m c main_arg4 _ = V m c main_arg4 _
  congr 1
  funext a
  apply Fin.ext
  obtain ⟨h0, h1⟩ := idx4 t
  fin_cases a
  · show win0_4.index t (0 : Fin 2) * 512 + 1 * p.val = _
    rw [h0]; show _ = 512 * (t.val / 6) + p.val; omega
  · show win0_4.index t (1 : Fin 2) * 64 + 1 * k.val = _
    rw [h1]; show _ = k.val; omega

/-- The column-factor table at point `t`: the whole array. -/
theorem blk5 (t : Fin cfg0.N) (p : Fin 44) (k : Fin 128) : iblk m c 5 t (ix2 p k) = V m c main_v2 (ix2 p k) := by
  show V m c main_v2 _ = V m c main_v2 _
  congr 1
  funext a
  apply Fin.ext
  obtain ⟨h0, h1⟩ := idx5 t
  fin_cases a
  · show win0_5.index t (0 : Fin 2) * 44 + 1 * p.val = _
    rw [h0]; show _ = p.val; omega
  · show win0_5.index t (1 : Fin 2) * 128 + 1 * k.val = _
    rw [h1]; show _ = k.val; omega

end Cert.W4A8

end
-- ==== Proof.KernelValue.lean ====
/- The kernel's result array, element by element: the weight scratch holds its column block's dequantized weights at every
   visit of the block, so every visit's output block holds the output. -/
module

public import proofs.«01_k».proof.Proof.Blocks

@[expose] public section

set_option maxRecDepth 4096

noncomputable section

namespace Cert.W4A8

open Cert.KernelIdeal Cert.KernelIdeal.Gen Idealize.ShloMosaic Idealize.ShloMosaic.TcCoe Idealize.SL.Sem

variable (m : (ℓ : Loc nD τ sig) → Buf (Elt Ideal) ℓ) (c : Dev nD)

/-- The dequantized weights of the column block that point `t` visits, laid out as the scratch lays them out. -/
def wBlock (t : Fin cfg0.N) (y : S4096x512.Idx) : EReal :=
  wVal (m ((c : Thread nD τ).loc main_arg2)) (m ((c : Thread nD τ).loc main_arg3)) (m ((c : Thread nD τ).loc main_arg4)) (y 0)
    (⟨512 * (t.val / 6) + (y 1).val, by have := lt66 t; have h : (y 1).val < 512 := (y 1).isLt; omega⟩ : Fin 5632)

/-- The weights a first visit computes are its column block's. -/
theorem weightAt_blk (t : Fin cfg0.N) : weightAt (iblk m c 2 t) (iblk m c 3 t) (iblk m c 4 t) = wBlock m c t := by
  funext y
  obtain ⟨a, b, rfl⟩ : ∃ (a : Fin 4096) (b : Fin 512), y = ix2 a b := ⟨y 0, y 1, eq_ix2 y⟩
  show nibR (iblk m c 2 t (ix2 b (⟨a.val / 2, by omega⟩ : Fin 2048))) (a.val % 2) * byteR (iblk m c 3 t (ix2 b (⟨a.val / 64, by omega⟩ : Fin 64)))
    - byteR (iblk m c 4 t (ix2 b (⟨a.val / 64, by omega⟩ : Fin 64))) = _
  rw [blk2, blk3, blk4]
  rfl

/-- Two points of one column block have the same weights. -/
theorem wBlock_congr (t t' : Fin cfg0.N) (h : t.val / 6 = t'.val / 6) : wBlock m c t = wBlock m c t' := by
  funext y
  exact congrArg (wVal _ _ _ (y 0)) (Fin.ext (congrArg (fun d => 512 * d + (y 1).val) h))

/-- After every point the scratch holds the weights of the point's column block. -/
theorem scratch_eq (n : ℕ) : ∀ hn : n < cfg0.N, (outsAt0 m c n hn).2 = wBlock m c ⟨n, hn⟩ := by
  induction n with
  | zero =>
    intro hn
    rw [outsAt0_A m c ⟨0, hn⟩ (Nat.zero_mod _)]
    dsimp only
    rw [sout_A]
    exact weightAt_blk m c _
  | succ n ih =>
    intro hn
    by_cases h0 : (n + 1) % 6 = 0
    · rw [outsAt0_A m c ⟨n + 1, hn⟩ h0]
      dsimp only
      rw [sout_A]
      exact weightAt_blk m c _
    · rw [outsAt0_B m c ⟨n + 1, hn⟩ h0]
      dsimp only
      unfold sout0_B_0
      refine (ih (Nat.lt_of_succ_lt hn)).trans (wBlock_congr m c _ _ ?_)
      show n / 6 = (n + 1) / 6
      omega

/-- The output block of every point, over the block's weights. -/
theorem block_eq (t : Fin cfg0.N) : (outsAt0 m c t.val t.isLt).1
    = outAt (grid0.coords t) (iblk m c 0 t) (wBlock m c t) (iblk m c 1 t) (iblk m c 5 t) := by
  by_cases h0 : t.val % 6 = 0
  · rw [outsAt0_A m c t h0]
    dsimp only
    rw [out_A, weightAt_blk]
  · rw [outsAt0_B m c t h0]
    dsimp only
    rw [out_B, scratch_eq, wBlock_congr m c ⟨t.val - 1, _⟩ t (by show (t.val - 1) / 6 = t.val / 6; omega)]

/-- The output block of point `t` at an element: the result element of the row and column it stands for. -/
theorem block_apply (t : Fin cfg0.N) (p : Fin 1024) (q : Fin 512) (r : Fin 6144) (s : Fin 5632)
    (hr : r.val = 1024 * (t.val % 6) + p.val) (hs : s.val = 512 * (t.val / 6) + q.val) :
    (outsAt0 m c t.val t.isLt).1 (ix2 p q)
      = outVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r s := by
  rw [block_eq]
  have e0 := coords0 t
  have e1 := coords1 t
  have ht := lt66 t
  have hacc : accAt (iblk m c 0 t) (wBlock m c t) p q
      = ∑ k : Fin 4096, ((((m ((c : Thread nD τ).loc main_arg0)) (ix3 (⟨r.val / 3072, by omega⟩ : Fin 2) (⟨r.val % 3072, by omega⟩ : Fin 3072) k)).toInt : ℝ) : EReal)
        * wVal (m ((c : Thread nD τ).loc main_arg2)) (m ((c : Thread nD τ).loc main_arg3)) (m ((c : Thread nD τ).loc main_arg4)) k s := by
    unfold accAt
    refine Finset.sum_congr rfl fun k _ => ?_
    rw [blk0, ← V_x m c r k]
    have hx : (⟨1024 * (t.val % 6) + p.val, by have := lt66 t; omega⟩ : Fin 6144) = r := Fin.ext hr.symm
    have hw : wBlock m c t (ix2 k q) = wVal (m ((c : Thread nD τ).loc main_arg2)) (m ((c : Thread nD τ).loc main_arg3)) (m ((c : Thread nD τ).loc main_arg4)) k s := by
      exact congrArg (wVal _ _ _ k) (Fin.ext hs.symm)
    rw [hx, hw]
  have h1 : iblk m c 1 t (ix2 (⟨8 * (grid0.coords t 1).val + p.val / 128, by omega⟩ : Fin 48) (⟨p.val % 128, by omega⟩ : Fin 128))
      = (m ((c : Thread nD τ).loc main_arg1)) (ix2 (⟨r.val / 3072, by omega⟩ : Fin 2) (⟨r.val % 3072, by omega⟩ : Fin 3072)) := by
    rw [blk1, ← V_xs m c r]
    have a : (⟨8 * (grid0.coords t 1).val + p.val / 128, by omega⟩ : Fin 48) = ⟨r.val / 128, by omega⟩ := Fin.ext (by dsimp only; omega)
    have b : (⟨p.val % 128, by omega⟩ : Fin 128) = ⟨r.val % 128, by omega⟩ := Fin.ext (by dsimp only; omega)
    rw [a, b]
  have h5 : iblk m c 5 t (ix2 (⟨4 * (grid0.coords t 0).val + q.val / 128, by omega⟩ : Fin 44) (⟨q.val % 128, by omega⟩ : Fin 128))
      = (m ((c : Thread nD τ).loc main_arg5)) (ix1 s) := by
    rw [blk5, ← V_wc m c s]
    have a : (⟨4 * (grid0.coords t 0).val + q.val / 128, by omega⟩ : Fin 44) = ⟨s.val / 128, by omega⟩ := Fin.ext (by dsimp only; omega)
    have b : (⟨q.val % 128, by omega⟩ : Fin 128) = ⟨s.val % 128, by omega⟩ := Fin.ext (by dsimp only; omega)
    rw [a, b]
  unfold outVal
  rw [← hacc, ← h1, ← h5]
  rfl

/-- The kernel's result array at row `r` and column `s`. -/
theorem kernel_value (r : Fin 6144) (s : Fin 5632) : Value.G6 m c (ix2 r s)
    = outVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r s := by
  have hp : Value.pt6Of (ix2 r s) = r.val / 1024 + 6 * (s.val / 512) := by
    show 1 * (r.val / 1024 - 0) + 6 * (s.val / 512 - 0) = _
    omega
  have hN : cfg0.N = 66 := N_0
  have hlt : Value.pt6Of (ix2 r s) < cfg0.N := by rw [hp, hN]; omega
  unfold Value.G6
  rw [dif_pos hlt, ← Value.outsAt0_sweep m c _ hlt]
  have hl : Value.loc6Of (ix2 r s) = ix2 (⟨r.val % 1024, by omega⟩ : Fin 1024) (⟨s.val % 512, by omega⟩ : Fin 512) := by
    funext a
    apply Fin.ext
    fin_cases a <;> rfl
  rw [hl]
  refine block_apply m c ⟨_, hlt⟩ _ _ r s ?_ ?_
  · show r.val = 1024 * (Value.pt6Of (ix2 r s) % 6) + r.val % 1024
    rw [hp]; omega
  · show s.val = 512 * (Value.pt6Of (ix2 r s) / 6) + s.val % 512
    rw [hp]; omega

end Cert.W4A8

end
-- ==== Proof.RefValue.lean ====
/- The reference's result array, element by element. -/
module

public import proofs.«01_k».proof.Proof.Words
public import proofs.«01_k».proof.Proof.Gen.ReferenceIdeal.Run
public import Idealize.ShloMosaic.Lib.Pointwise

@[expose] public section

set_option maxRecDepth 65536
set_option maxHeartbeats 1000000

noncomputable section

namespace Cert.W4A8

open Cert.ReferenceIdeal Cert.ReferenceIdeal.Gen Idealize.ShloMosaic Idealize.ShloMosaic.TcCoe Idealize.SL.Sem

/-- The row of group numbers, position `j` holding `j` floor-divided by 32, as the program computes it. -/
def quot : IVec S1x2048 32 :=
  select (andi (cmpi .ne (signi (broadcastInDim S1x2048 ![1] bcast_S2048_S1x2048_1 (iotaInDim S2048 32 0))) (broadcastInDim S1x2048 ![] bcast_S_S1x2048 (signi (id (constantI S_ 32 32#32))))) (cmpi .ne (Host.remsi (broadcastInDim S1x2048 ![1] bcast_S2048_S1x2048_1 (iotaInDim S2048 32 0)) (broadcastInDim S1x2048 ![] bcast_S_S1x2048 (id (constantI S_ 32 32#32)))) (broadcastInDim S1x2048 ![] bcast_S_S1x2048 (constantI S_ 32 0#32)))) (subi (Host.divsi (broadcastInDim S1x2048 ![1] bcast_S2048_S1x2048_1 (iotaInDim S2048 32 0)) (broadcastInDim S1x2048 ![] bcast_S_S1x2048 (id (constantI S_ 32 32#32)))) (broadcastInDim S1x2048 ![] bcast_S_S1x2048 (constantI S_ 32 1#32))) (Host.divsi (broadcastInDim S1x2048 ![1] bcast_S2048_S1x2048_1 (iotaInDim S2048 32 0)) (broadcastInDim S1x2048 ![] bcast_S_S1x2048 (id (constantI S_ 32 32#32))))

/-- A byte table repeated 32 times along its rows, through the one-hot product, as the program computes it. -/
def spread (x : Vec Ideal S5632x64 .i8) : Vec Ideal S5632x2048 .bf16 :=
  truncf .bf16 (Host.dotGeneral (F := Ideal) dot_S5632x64_S64x2048_S5632x2048_1_0_0_1_n_n none (sitofp .bf16 (extui 32 x natLt_8_32)) (uitofp .bf16 (cmpi .eq (broadcastInDim S64x2048 ![0, 1] bcast_S1x2048_S64x2048_0_1 quot) (broadcastInDim S64x2048 ![0, 1] bcast_S64x1_S64x2048_0_1 (broadcastInDim S64x1 ![0] bcast_S64_S64x1_0 (iotaInDim S64 32 0)))))) bitsLt_bf16_f32

theorem quot_apply (j : Fin 2048) : quot (ix2 (0 : Fin 1) j) = BitVec.ofNat 32 (j.val / 32) := by
  unfold quot
  pointwise
  revert j
  decide +kernel

/-- The bit of an equality of words, as a number. -/
theorem bit_real (a b : BitVec 32) : (FloatOps.uitofp (F := Ideal) FTy.bf16 (IntOp.cmpi CmpIPredicate.eq a b) : EReal) = if a = b then 1 else 0 := by
  show (((IntOp.cmpi CmpIPredicate.eq a b).toNat : ℝ) : EReal) = _
  by_cases h : a = b
  · rw [if_pos h, IntOp.cmpi_eq.mpr h]; norm_num
  · rw [if_neg h]
    have : IntOp.cmpi CmpIPredicate.eq a b = 0#1 := by
      have h1 : IntOp.cmpi CmpIPredicate.eq a b ≠ 1#1 := fun e => h (IntOp.cmpi_eq.mp e)
      revert h1
      generalize IntOp.cmpi CmpIPredicate.eq a b = w
      revert w; decide
    rw [this]; norm_num

theorem spread_apply (x : Vec Ideal S5632x64 .i8) (n : Fin 5632) (j : Fin 2048) :
    spread x (ix2 n j) = byteR (x (ix2 n (⟨j.val / 32, by omega⟩ : Fin 64))) := by
  unfold spread
  pointwise
  rw [quot_apply]
  rw [Finset.sum_eq_single (⟨j.val / 32, by omega⟩ : Fin 64)]
  · rw [bit_real, if_pos rfl, mul_one]
    exact byte_real _
  · intro k _ hk
    rw [bit_real, if_neg, mul_zero]
    intro e
    apply hk
    apply Fin.ext
    have := congrArg BitVec.toNat e
    simp only [BitVec.toNat_ofNat] at this
    have := k.isLt
    show k.val = j.val / 32
    omega
  · intro h
    exact absurd (Finset.mem_univ _) h

/-- The weight matrix as the program computes it, before its halves are interleaved. -/
def half (nib : Vec Ideal S5632x2048 .i32) (a3 a4 : Vec Ideal S5632x64 .i8) : Vec Ideal S5632x2048x1 .bf16 :=
  broadcastInDim S5632x2048x1 ![0, 1] bcast_S5632x2048_S5632x2048x1_0_1 (subf (mulf (sitofp .bf16 nib : FVec Ideal S5632x2048 .bf16) (spread a3 : FVec Ideal S5632x2048 .bf16)) (spread a4 : FVec Ideal S5632x2048 .bf16) : FVec Ideal S5632x2048 .bf16)

theorem half_apply (nib : Vec Ideal S5632x2048 .i32) (a3 a4 : Vec Ideal S5632x64 .i8) (n : Fin 5632) (j : Fin 2048) (e : Fin 1) :
    half nib a3 a4 (ix3 n j e) = (((nib (ix2 n j)).toInt : ℝ) : EReal) * byteR (a3 (ix2 n (⟨j.val / 32, by omega⟩ : Fin 64)))
      - byteR (a4 (ix2 n (⟨j.val / 32, by omega⟩ : Fin 64))) := by
  unfold half
  pointwise
  rw [spread_apply, spread_apply]
  rfl

/-- The weight matrix as the program computes it. -/
def weights (a2 : Vec Ideal S5632x2048 .i8) (a3 a4 : Vec Ideal S5632x64 .i8) : Vec Ideal S5632x4096 .bf16 :=
  shapeCast _ (concatenate S5632x2048x2 2 [⟨S5632x2048x1, half (andi (extui 32 a2 natLt_8_32) (broadcastInDim S5632x2048 ![] bcast_S_S5632x2048 (constantI S_ 32 15#32))) a3 a4⟩,
    ⟨S5632x2048x1, half (Host.shrsi (extui 32 a2 natLt_8_32) (broadcastInDim S5632x2048 ![] bcast_S_S5632x2048 (constantI S_ 32 4#32))) a3 a4⟩]
    concatenates_S5632x2048x1_S5632x2048x1_S5632x2048x2_d2) shapeCasts_S5632x2048x2_S5632x4096

theorem weights_apply (a2 : Vec Ideal S5632x2048 .i8) (a3 a4 : Vec Ideal S5632x64 .i8) (n : Fin 5632) (k : Fin 4096) :
    weights a2 a3 a4 (ix2 n k) = nibR (a2 (ix2 n (⟨k.val / 2, by omega⟩ : Fin 2048))) (k.val % 2)
      * byteR (a3 (ix2 n (⟨k.val / 64, by omega⟩ : Fin 64))) - byteR (a4 (ix2 n (⟨k.val / 64, by omega⟩ : Fin 64))) := by
  unfold weights
  pointwise
  have g : (⟨(⟨k.val / 2, by omega⟩ : Fin 2048).val / 32, by dsimp only; omega⟩ : Fin 64) = ⟨k.val / 64, by omega⟩ := Fin.ext (by dsimp only; omega)
  by_cases h : k.val % 2 < 1
  · rw [dif_pos h, half_apply, g]
    have e : k.val % 2 = 0 := by omega
    exact congrArg₂ (· - ·) (congrArg₂ (· * ·) ((low_real _).trans (congrArg (nibR _) e.symm)) rfl) rfl
  · rw [dif_neg h, half_apply, g]
    have e : k.val % 2 = 1 := by omega
    exact congrArg₂ (· - ·) (congrArg₂ (· * ·) ((high_real _).trans (congrArg (nibR _) e.symm)) rfl) rfl

/-- The result as the program computes it. -/
def result (a0 : Vec Ideal S2x3072x4096 .i8) (a1 : Vec Ideal S2x3072 .f32) (w : Vec Ideal S5632x4096 .bf16) (a5 : Vec Ideal S5632 .f32) :
    Vec Ideal S6144x5632 .bf16 :=
  shapeCast _ (truncf .bf16 (mulf (mulf (Host.dotGeneral (F := Ideal) (φ₁ := .bf16) (φ₂ := .f32) dot_S2x3072x4096_S5632x4096_S2x3072x5632_2_1_01_0_n_n none (sitofp .bf16 (extsi 32 a0 natLt_8_32)) (w : FVec Ideal S5632x4096 .bf16)) (broadcastInDim S2x3072x5632 ![0, 1, 2] bcast_S2x3072x1_S2x3072x5632_0_1_2 (broadcastInDim S2x3072x1 ![0, 1] bcast_S2x3072_S2x3072x1_0_1 a1))) (broadcastInDim S2x3072x5632 ![0, 1, 2] bcast_S1x1x5632_S2x3072x5632_0_1_2 (broadcastInDim S1x1x5632 ![2] bcast_S5632_S1x1x5632_2 a5))) bitsLt_bf16_f32) shapeCasts_S2x3072x5632_S6144x5632

theorem result_apply (a0 : Vec Ideal S2x3072x4096 .i8) (a1 : Vec Ideal S2x3072 .f32) (w : Vec Ideal S5632x4096 .bf16) (a5 : Vec Ideal S5632 .f32)
    (r : Fin 6144) (s : Fin 5632) :
    result a0 a1 w a5 (ix2 r s)
      = (∑ k : Fin 4096, (((a0 (ix3 (⟨r.val / 3072, by omega⟩ : Fin 2) (⟨r.val % 3072, by omega⟩ : Fin 3072) k)).toInt : ℝ) : EReal) * w (ix2 s k))
    * a1 (ix2 (⟨r.val / 3072, by omega⟩ : Fin 2) (⟨r.val % 3072, by omega⟩ : Fin 3072)) * a5 (ix1 s) := by
  unfold result
  pointwise
  have hx : ∀ b : BitVec 8, (FloatOps.sitofp (F := Ideal) FTy.bf16 (BitVec.signExtend 32 b) : EReal) = ((b.toInt : ℝ) : EReal) := fun b => by
    show (((BitVec.signExtend 32 b).toInt : ℝ) : EReal) = _
    rw [BitVec.toInt_signExtend_of_le (by decide)]
  simp only [hx]

/-- The reference's result is that computation of its arguments. -/
theorem res_eq (m : (ℓ : Loc nD τ sig) → Buf (Elt Ideal) ℓ) (c : Dev nD) : Value.res_main_v51 m c
    = result (m ((c.tc : Thread nD τ).loc main_arg0)) (m ((c.tc : Thread nD τ).loc main_arg1))
        (weights (m ((c.tc : Thread nD τ).loc main_arg2)) (m ((c.tc : Thread nD τ).loc main_arg3)) (m ((c.tc : Thread nD τ).loc main_arg4)))
        (m ((c.tc : Thread nD τ).loc main_arg5)) := by
  unfold Value.res_main_v51 result weights half spread quot
  rfl

end Cert.W4A8

end
-- ==== Proof.Equation.lean ====
/- The equation: from memories that agree on the arguments, the kernel's result array is the reference's. -/
module

public import proofs.«01_k».proof.Proof.KernelValue
public import proofs.«01_k».proof.Proof.RefValue

@[expose] public section

noncomputable section

namespace Cert.W4A8

open Idealize.ShloMosaic Idealize.ShloMosaic.TcCoe Idealize.SL.Sem

/-- The reference's result of six arrays, at row `r` and column `s`, is the value the kernel computes of them. -/
theorem reference_value (a0 : Vec Ideal Cert.KernelIdeal.S2x3072x4096 .i8) (a1 : Vec Ideal Cert.KernelIdeal.S2x3072 .f32)
    (a2 : Vec Ideal Cert.KernelIdeal.S5632x2048 .i8) (a3 a4 : Vec Ideal Cert.KernelIdeal.S5632x64 .i8)
    (a5 : Vec Ideal Cert.KernelIdeal.S5632 .f32) (r : Fin 6144) (s : Fin 5632) :
    result a0 a1 (weights a2 a3 a4) a5 (ix2 r s) = outVal a0 a1 a2 a3 a4 a5 r s := by
  rw [result_apply]
  have h : ∀ k : Fin 4096, weights a2 a3 a4 (ix2 s k) = wVal a2 a3 a4 k s := fun k => weights_apply a2 a3 a4 s k
  simp only [h]
  rfl

/-- The two result arrays are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v51 m' c = Cert.KernelIdeal.Value.G6 m c := by
  refine (res_eq m' c).trans ?_
  rw [h0, h1, h2, h3, h4, h5]
  funext y
  obtain ⟨r, s, rfl⟩ : ∃ (r : Fin 6144) (s : Fin 5632), y = ix2 r s := ⟨y 0, y 1, eq_ix2 y⟩
  exact (reference_value _ _ _ _ _ _ r s).trans (kernel_value m c r s).symm

end Cert.W4A8

end
-- ==== Proof.lean ====
/- The certificate's claim: the kernel, its ideal reading and the reference run without fault, leave their arguments
   unchanged and every semaphore counter at zero; the ideal reading is the kernel's own text; and over the extended reals
   the kernel and the reference end with the same result array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Gen.frame m ρ

/-- The ideal kernel's frame. -/
theorem frame_kernelIdeal : Cert.quiescent_KernelIdeal := fun m ρ _ => Cert.KernelIdeal.Gen.frame m ρ

/-- The reference's frame: its run read at its arguments; it declares no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The value claim: both programs' results are the kernel's array `G6`. -/
theorem value : Cert.algebraic_KernelIdeal_ReferenceIdeal := by
  intro m ρ m' ρ' _ hagree
  refine ⟨fun c => Cert.KernelIdeal.Value.G6 m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  exact Cert.W4A8.results_eq m m' c h0 h1 h2 h3 h4 h5

theorem claim : Cert.Claim := ⟨Cert.Kernel.Gen.facts, Cert.KernelIdeal.Gen.facts, Cert.ReferenceIdeal.Gen.facts,
  frame_kernel, frame_kernelIdeal, frame_reference, trivial, value⟩

end Cert.Proof

end
